-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v19)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x256x32x32 : Shape := ⟨4, ![8, 256, 32, 32]⟩
abbrev S_ : Shape := ⟨0, ![]⟩
abbrev S1024x256 : Shape := ⟨2, ![1024, 256]⟩

class Facts : Prop where
  bcast_S_S8x256x32x32 : S_.BroadcastsInDim S8x256x32x32 (![] : Fin 0 → Fin S8x256x32x32.rank)
  reducesTo_S8x256x32x32_S_d0_1_2_3 : S8x256x32x32.ReducesTo [0, 1, 2, 3] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S8x256x32x32 .f32) (main_arg1 : IVec S_ 32) (main_arg2 : IVec S_ 32) (main_arg3 : FVec F S1024x256 .f32) : IVec S_ 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_c : IVec S_ 1 := constantI S_ 1 1#1
  let main_v3 : IVec S_ 1 := (fun x v => Host.reduce IntOp.andi x v reducesTo_S8x256x32x32_S_d0_1_2_3 h_S_) main_v2 main_c
  let main_v4 : FVec F S1024x256 .f32 := Host.absf main_arg3
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S8x256x32x32 : Shape := ⟨4, ![8, 256, 32, 32]⟩
abbrev S_ : Shape := ⟨0, ![]⟩
abbrev S1024x256 : Shape := ⟨2, ![1024, 256]⟩
abbrev S2x4x256x1024 : Shape := ⟨4, ![2, 4, 256, 1024]⟩
abbrev S1024 : Shape := ⟨1, ![1024]⟩
abbrev S1x1024 : Shape := ⟨2, ![1, 1024]⟩
abbrev S2x4x1024x1024 : Shape := ⟨4, ![2, 4, 1024, 1024]⟩
abbrev S4x2x1x128 : Shape := ⟨4, ![4, 2, 1, 128]⟩
abbrev S2x1x256x512 : Shape := ⟨4, ![2, 1, 256, 512]⟩
abbrev S2x1x512x1024 : Shape := ⟨4, ![2, 1, 512, 1024]⟩
abbrev S1x1x1x128 : Shape := ⟨4, ![1, 1, 1, 128]⟩
abbrev S1x1x256x512 : Shape := ⟨4, ![1, 1, 256, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩
abbrev S512x1024 : Shape := ⟨2, ![512, 1024]⟩
abbrev S1x512x1 : Shape := ⟨3, ![1, 512, 1]⟩
abbrev S1 : Shape := ⟨1, ![1]⟩
abbrev S1x1x1 : Shape := ⟨3, ![1, 1, 1]⟩
abbrev S1x1x512x1024 : Shape := ⟨4, ![1, 1, 512, 1024]⟩
abbrev S1x512x1024 : Shape := ⟨3, ![1, 512, 1024]⟩
abbrev S1x128 : Shape := ⟨2, ![1, 128]⟩
abbrev S8192x1024 : Shape := ⟨2, ![8192, 1024]⟩
abbrev S128 : Shape := ⟨1, ![128]⟩

abbrev nBuf : Space → Nat
  | .hbm => 32
  | .vmem => 10
  | .smem => 0
  | _ => 0

abbrev bufTy : (tb : Table) → Fin (tcTables nBuf tb) → BufTy
  | .hbm, ⟨0, _⟩ => ⟨S8x256x32x32, .f32⟩
  | .hbm, ⟨1, _⟩ => ⟨S_, .i32⟩
  | .hbm, ⟨2, _⟩ => ⟨S_, .i32⟩
  | .hbm, ⟨3, _⟩ => ⟨S1024x256, .f32⟩
  | .hbm, ⟨4, _⟩ => ⟨S2x4x256x1024, .f32⟩
  | .hbm, ⟨5, _⟩ => ⟨S1024x256, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S1024x256, .f32⟩
  | .hbm, ⟨10, _⟩ => ⟨S2x4x1024x1024, .f32⟩
  | .hbm, ⟨11, _⟩ => ⟨S2x4x256x1024, .f32⟩
  | .hbm, ⟨12, _⟩ => ⟨S4x2x1x128, .f32⟩
  | .hbm, ⟨13, _⟩ => ⟨S8192x1024, .f32⟩
  | .hbm, ⟨14, _⟩ => ⟨S8x256x32x32, .f32⟩
  | .hbm, ⟨15, _⟩ => ⟨S_, .f32⟩
  | .hbm, ⟨16, _⟩ => ⟨S128, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S2x1x256x512, .f32⟩
  | .local _ .vmem, ⟨1, _⟩ => ⟨S2x1x256x512, .f32⟩
  | .local _ .vmem, ⟨2, _⟩ => ⟨S1024x256, .f32⟩
  | .local _ .vmem, ⟨3, _⟩ => ⟨S1x1024, .f32⟩
  | .local _ .vmem, ⟨4, _⟩ => ⟨S2x1x512x1024, .f32⟩
  | .local _ .vmem, ⟨5, _⟩ => ⟨S2x1x512x1024, .f32⟩
  | .local _ .vmem, ⟨6, _⟩ => ⟨S2x1x256x512, .f32⟩
  | .local _ .vmem, ⟨7, _⟩ => ⟨S2x1x256x512, .f32⟩
  | .local _ .vmem, ⟨8, _⟩ => ⟨S1x1x1x128, .f32⟩
  | .local _ .vmem, ⟨9, _⟩ => ⟨S1x1x1x128, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x256x32x32 : Shape := ⟨4, ![8, 256, 32, 32]⟩
abbrev S_ : Shape := ⟨0, ![]⟩
abbrev S1024x256 : Shape := ⟨2, ![1024, 256]⟩
abbrev S8x32x32x256 : Shape := ⟨4, ![8, 32, 32, 256]⟩
abbrev S8192x256 : Shape := ⟨2, ![8192, 256]⟩
abbrev S8192 : Shape := ⟨1, ![8192]⟩
abbrev S8192x1 : Shape := ⟨2, ![8192, 1]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S1 : Shape := ⟨1, ![1]⟩
abbrev S1x1 : Shape := ⟨2, ![1, 1]⟩
abbrev S4096x1024 : Shape := ⟨2, ![4096, 1024]⟩
abbrev S4096 : Shape := ⟨1, ![4096]⟩

abbrev nBuf : Space → Nat
  | .hbm => 138
  | .vmem => 0
  | .smem => 0
  | _ => 0

abbrev hbmTy0_0 (i : Nat) : BufTy := match i % 128 with
  | 0 => ⟨S8x256x32x32, .f32⟩
  | 1 => ⟨S_, .i32⟩
  | 2 => ⟨S_, .i32⟩
  | 3 => ⟨S1024x256, .f32⟩
  | 4 => ⟨S8x32x32x256, .f32⟩
  | 5 => ⟨S8192x256, .f32⟩
  | 6 => ⟨S8192x256, .f32⟩
  | 7 => ⟨S_, .f32⟩
  | 8 => ⟨S8192, .f32⟩
  | 9 => ⟨S8192x1, .f32⟩
  | 10 => ⟨S1024x256, .f32⟩
  | 11 => ⟨S_, .f32⟩
  | 12 => ⟨S1024, .f32⟩
  | 13 => ⟨S1x1024, .f32⟩
  | 14 => ⟨S8192x1024, .f32⟩
  | 15 => ⟨S8192x1024, .f32⟩
  | 16 => ⟨S8192x1024, .f32⟩
  | 17 => ⟨S256x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S8192x1024, .i32⟩
  | 24 => ⟨S_, .f32⟩
  | 25 => ⟨S_, .i32⟩
  | 26 => ⟨S8192, .f32⟩
  | 27 => ⟨S8192, .i32⟩
  | 28 => ⟨S8192x1024, .f32⟩
  | 29 => ⟨S_, .f32⟩
  | 30 => ⟨S8192x1024, .f32⟩
  | 31 => ⟨S8192x1024, .f32⟩
  | 32 => ⟨S_, .f32⟩
  | 33 => ⟨S8192, .f32⟩
  | 34 => ⟨S_, .f32⟩
  | 35 => ⟨S8192, .f32⟩
  | 36 => ⟨S8192, .f32⟩
  | 37 => ⟨S8192x1, .f32⟩
  | 38 => ⟨S8192x1024, .f32⟩
  | 39 => ⟨S8192x1024, .f32⟩
  | 40 => ⟨S8192x1024, .f32⟩
  | 41 => ⟨S_, .f32⟩
  | 42 => ⟨S8192, .f32⟩
  | 43 => ⟨S8192x1, .f32⟩
  | 44 => ⟨S8192x1024, .f32⟩
  | 45 => ⟨S8192x1024, .f32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S8192x1, .i32⟩
  | 54 => ⟨S1, .i32⟩
  | 55 => ⟨S_, .i32⟩
  | 56 => ⟨S8192x1, .i32⟩
  | 57 => ⟨S8192x1, .i1⟩
  | 58 => ⟨S1x1, .i32⟩
  | 59 => ⟨S8192x1, .i32⟩
  | 60 => ⟨S8192x1, .i1⟩
  | 61 => ⟨S8192x1, .i1⟩
  | 62 => ⟨S_, .i1⟩
  | 63 => ⟨S8192, .i1⟩
  | 64 => ⟨S8192x256, .f32⟩
  | 65 => ⟨S8192x256, .i1⟩
  | 66 => ⟨S_, .f32⟩
  | 67 => ⟨S8192x256, .f32⟩
  | 68 => ⟨S8192x256, .f32⟩
  | 69 => ⟨S8192x256, .f32⟩
  | 70 => ⟨S8192x256, .f32⟩
  | 71 => ⟨S_, .f32⟩
  | 72 => ⟨S_, .f32⟩
  | 73 => ⟨S_, .f32⟩
  | 74 => ⟨S_, .f32⟩
  | 75 => ⟨S8192x256, .f32⟩
  | 76 => ⟨S8192x256, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S8192x256, .f32⟩
  | 85 => ⟨S8192x256, .f32⟩
  | 86 => ⟨S8x32x32x256, .f32⟩
  | 87 => ⟨S8x256x32x32, .f32⟩
  | 88 => ⟨S4096x1024, .f32⟩
  | 89 => ⟨S4096x1024, .f32⟩
  | 90 => ⟨S4096x1024, .f32⟩
  | 91 => ⟨S_, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S_, .f32⟩
  | 99 => ⟨S4096, .f32⟩
  | 100 => ⟨S4096x1024, .f32⟩
  | 101 => ⟨S4096x1024, .f32⟩
  | 102 => ⟨S4096x1024, .f32⟩
  | 103 => ⟨S4096x1024, .f32⟩
  | 104 => ⟨S_, .f32⟩
  | 105 => ⟨S4096, .f32⟩
  | 106 => ⟨S_, .f32⟩
  | 107 => ⟨S4096, .f32⟩
  | 108 => ⟨S4096, .f32⟩
  | 109 => ⟨S_, .f32⟩
  | 110 => ⟨S4096, .f32⟩
  | 111 => ⟨S4096, .f32⟩
  | 112 => ⟨S4096, .f32⟩
  | 113 => ⟨S_, .f32⟩
  | 114 => ⟨S_, .f32⟩
  | 115 => ⟨S_, .f32⟩
  | 116 => ⟨S_, .f32⟩
  | 117 => ⟨S4096x1024, .f32⟩
  | 118 => ⟨S4096x1024, .f32⟩
  | 119 => ⟨S_, .f32⟩
  | 120 => ⟨S4096, .f32⟩
  | 121 => ⟨S4096, .f32⟩
  | 122 => ⟨S4096x1024, .f32⟩
  | 123 => ⟨S4096x1024, .f32⟩
  | 124 => ⟨S_, .f32⟩
  | 125 => ⟨S4096, .f32⟩
  | 126 => ⟨S4096, .f32⟩
  | 127 => ⟨S_, .f32⟩
  | _ => ⟨S8x256x32x32, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S8x256x32x32, .f32⟩

abbrev hbmTy (i : Nat) : BufTy := match i / 128 with
  | 0 => hbmTy0_0 i
  | 1 => hbmTy0_1 i
  | _ => ⟨S8x256x32x32, .f32⟩

abbrev bufTy : (tb : Table) → Fin (tcTables nBuf tb) → BufTy
  | .hbm, ⟨i, _⟩ => hbmTy i
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_6 : Ref sig .tc := ⟨.hbm, 71, rfl⟩
abbrev main_v34 : Ref sig .tc := ⟨.hbm, 72, rfl⟩
abbrev main_cst_7 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_8 : Ref sig .tc := ⟨.hbm, 77, rfl⟩
abbrev main_v38 : Ref sig .tc := ⟨.hbm, 78, rfl⟩
abbrev main_cst_9 : Ref sig .tc := ⟨.hbm, 79, rfl⟩
abbrev main_v39 : Ref sig .tc := ⟨.hbm, 80, rfl⟩
abbrev main_cst_10 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_11 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_12 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_13 : Ref sig .tc := ⟨.hbm, 104, rfl⟩
abbrev main_v60 : Ref sig .tc := ⟨.hbm, 105, rfl⟩
abbrev main_cst_14 : Ref sig .tc := ⟨.hbm, 106, rfl⟩
abbrev main_v61 : Ref sig .tc := ⟨.hbm, 107, rfl⟩
abbrev main_v62 : Ref sig .tc := ⟨.hbm, 108, rfl⟩
abbrev main_cst_15 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_16 : Ref sig .tc := ⟨.hbm, 113, rfl⟩
abbrev main_v66 : Ref sig .tc := ⟨.hbm, 114, rfl⟩
abbrev main_cst_17 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_18 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_19 : Ref sig .tc := ⟨.hbm, 124, rfl⟩
abbrev main_v74 : Ref sig .tc := ⟨.hbm, 125, rfl⟩
abbrev main_v75 : Ref sig .tc := ⟨.hbm, 126, rfl⟩
abbrev main_cst_20 : Ref sig .tc := ⟨.hbm, 127, rfl⟩
abbrev main_v76 : Ref sig .tc := ⟨.hbm, 128, rfl⟩
abbrev main_cst_21 : Ref sig .tc := ⟨.hbm, 129, rfl⟩
abbrev main_v77 : Ref sig .tc := ⟨.hbm, 130, rfl⟩
abbrev main_cst_22 : Ref sig .tc := ⟨.hbm, 131, rfl⟩
abbrev main_v78 : Ref sig .tc := ⟨.hbm, 132, rfl⟩
abbrev main_cst_23 : Ref sig .tc := ⟨.hbm, 133, rfl⟩
abbrev main_v79 : Ref sig .tc := ⟨.hbm, 134, rfl⟩
abbrev main_v80 : Ref sig .tc := ⟨.hbm, 135, rfl⟩
abbrev main_cst_24 : Ref sig .tc := ⟨.hbm, 136, rfl⟩
abbrev main_v81 : Ref sig .tc := ⟨.hbm, 137, rfl⟩

abbrev nD : Nat := 1
abbrev τ : Topo := Topo.v7x

variable {F : FTy → Type} [FloatOps F]
-- ==== Proof.Model.lean ====
/-
  The mathematics of the vector quantizer over the real numbers: a row `v` of the input against a codebook `C`.
  No program is mentioned here.
-/
module

public import Mathlib.Analysis.SpecialFunctions.Log.Basic
public import Idealize.ShloMosaic.PureOps.Ideal.Laws

@[expose] public section

noncomputable section

namespace Cert.VQ

open Finset

/-- One row of the input: 256 numbers. -/
abbrev Row := Fin 256 → ℝ

/-- A codebook: 1024 rows. -/
abbrev Book := Fin 1024 → Fin 256 → ℝ

/-- The squared distance of the row to the `k`-th code, written as the programs write it. -/
def dist (v : Row) (C : Book) (k : Fin 1024) : ℝ :=
  ((∑ d, v d * v d) + ∑ d, C k d * C k d) - 2 * ∑ d, v d * C k d

/-- The least distance. -/
def near (v : Row) (C : Book) : ℝ := univ.inf' univ_nonempty (dist v C)

/-- The codes at the least distance. -/
def nearest (v : Row) (C : Book) : Finset (Fin 1024) := univ.filter fun k => dist v C k = near v C

theorem near_le (v : Row) (C : Book) (k : Fin 1024) : near v C ≤ dist v C k := inf'_le _ (mem_univ k)

theorem nearest_nonempty (v : Row) (C : Book) : (nearest v C).Nonempty := by
  obtain ⟨k, _, hk⟩ := exists_mem_eq_inf' (univ_nonempty (α := Fin 1024)) (dist v C)
  exact ⟨k, by simp [nearest, near, hk]⟩

/-- The first code at the least distance. -/
def pick (v : Row) (C : Book) : Fin 1024 := (nearest v C).min' (nearest_nonempty v C)

theorem dist_pick (v : Row) (C : Book) : dist v C (pick v C) = near v C := by
  have h : pick v C ∈ nearest v C := (nearest v C).min'_mem (nearest_nonempty v C)
  exact (mem_filter.mp h).2

theorem pick_le (v : Row) (C : Book) {k : Fin 1024} (h : dist v C k = near v C) : pick v C ≤ k :=
  min'_le _ _ (by simp [nearest, h])

/-- The least distance is the sum of squared differences to the chosen code. -/
theorem near_eq_sum (v : Row) (C : Book) : near v C = ∑ d, (C (pick v C) d - v d) * (C (pick v C) d - v d) := by
  rw [← dist_pick, dist, mul_sum, ← sum_add_distrib, ← sum_sub_distrib]
  exact sum_congr rfl fun d _ => by ring

/-- The unnormalized weight of code `k`. -/
def wt (v : Row) (C : Book) (k : Fin 1024) : ℝ := Real.exp (near v C - dist v C k)

/-- The sum of the weights. -/
def tot (v : Row) (C : Book) : ℝ := ∑ k, wt v C k

theorem tot_pos (v : Row) (C : Book) : 0 < tot v C := sum_pos (fun _ _ => Real.exp_pos _) univ_nonempty

/-- The probability of code `k`: the softmax of the negated distances. -/
def prob (v : Row) (C : Book) (k : Fin 1024) : ℝ := wt v C k / tot v C

theorem prob_pos (v : Row) (C : Book) (k : Fin 1024) : 0 < prob v C k := div_pos (Real.exp_pos _) (tot_pos v C)

/-- The logarithm of the probability, without a logarithm of it. -/
def logp (v : Row) (C : Book) (k : Fin 1024) : ℝ := (near v C - dist v C k) - Real.log (tot v C)

theorem log_prob (v : Row) (C : Book) (k : Fin 1024) : Real.log (prob v C k) = logp v C k := by
  rw [prob, Real.log_div (show wt v C k ≠ 0 from (Real.exp_pos _).ne') (tot_pos v C).ne', wt, Real.log_exp, logp]

/-- The logarithm of the mean of the two rows' probabilities. -/
def logm (v w : Row) (C : Book) (k : Fin 1024) : ℝ := Real.log (1 / 2 * (prob v C k + prob w C k))

theorem mean_pos (v w : Row) (C : Book) (k : Fin 1024) : 0 < 1 / 2 * (prob v C k + prob w C k) := by
  have := prob_pos v C k; have := prob_pos w C k; linarith

/-- The weighted logarithms of a pair of rows at one code. -/
def went (v w : Row) (C : Book) (k : Fin 1024) : ℝ := prob v C k * logp v C k + prob w C k * logp w C k

/-- Twice the Jensen–Shannon summand of a pair of rows at one code. -/
def jsk (v w : Row) (C : Book) (k : Fin 1024) : ℝ :=
  went v w C k - (prob v C k + prob w C k) * logm v w C k

/-- A value of the output: the row moved to the chosen code. -/
def moved (v : Row) (C : Book) (d : Fin 256) : ℝ := v d + (C (pick v C) d - v d)

/-- The loss of all 8192 rows. -/
def lossOf (Z : Fin 8192 → Row) (C : Book) : ℝ :=
  (∑ n, near (Z n) C) / 2097152 + 1 / 4 * ((∑ n, near (Z n) C) / 2097152)

/-- The row of the first half and of the second half at position `s`. -/
def fst (Z : Fin 8192 → Row) (s : Fin 4096) : Row := Z ⟨s.val, by omega⟩
def snd (Z : Fin 8192 → Row) (s : Fin 4096) : Row := Z ⟨4096 + s.val, by omega⟩

/-- The mean Jensen–Shannon divergence of the two halves. -/
def jsdOf (Z : Fin 8192 → Row) (C : Book) : ℝ := (∑ s, 1 / 2 * ∑ k, jsk (fst Z s) (snd Z s) C k) / 4096

/-- The mean entropy of the two halves. -/
def entOf (Z : Fin 8192 → Row) (C : Book) : ℝ := (∑ s, -(1 / 2) * ∑ k, went (fst Z s) (snd Z s) C k) / 4096

end Cert.VQ

end
-- ==== Proof.Folds.lean ====
/-
  Sums, least and greatest elements of real numbers read among the extended reals, and the ideal operations at real
  numbers.
-/
module

public import Idealize.ShloMosaic.PureOps.Ideal.Laws
public import Mathlib.Data.Prod.Lex

@[expose] public section

noncomputable section

namespace Cert.VQ

open Idealize.ShloMosaic

variable {ι : Type} [Fintype ι] [Nonempty ι]

theorem coe_sum {κ : Type} (s : Finset κ) (f : κ → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The least of real numbers, folded from `+∞`. -/
theorem fold_min_coe (f : ι → ℝ) :
    (Finset.univ : Finset ι).fold min (⊤ : EReal) (fun k => ((f k : ℝ) : EReal))
      = ((Finset.univ.inf' Finset.univ_nonempty f : ℝ) : EReal) := by
  apply le_antisymm
  · rw [Finset.fold_min_le]
    obtain ⟨k, hk, e⟩ := Finset.exists_mem_eq_inf' (Finset.univ_nonempty (α := ι)) f
    exact Or.inr ⟨k, hk, by rw [e]⟩
  · rw [Finset.le_fold_min]
    exact ⟨le_top, fun k hk => EReal.coe_le_coe_iff.mpr (Finset.inf'_le _ hk)⟩

/-- The greatest of negated real numbers, folded from `−∞`, is the negated least. -/
theorem fold_max_neg_coe (f : ι → ℝ) :
    (Finset.univ : Finset ι).fold max (⊥ : EReal) (fun k => ((-f k : ℝ) : EReal))
      = ((-(Finset.univ.inf' Finset.univ_nonempty f) : ℝ) : EReal) := by
  apply le_antisymm
  · rw [Finset.fold_max_le]
    exact ⟨bot_le, fun k hk => EReal.coe_le_coe_iff.mpr (neg_le_neg (Finset.inf'_le _ hk))⟩
  · rw [Finset.le_fold_max]
    obtain ⟨k, hk, e⟩ := Finset.exists_mem_eq_inf' (Finset.univ_nonempty (α := ι)) f
    exact Or.inr ⟨k, hk, by rw [e]⟩

/-- The order of value first and position second. -/
def key (p : EReal × BitVec 32) : EReal ×ₗ ℤ := toLex (p.1, p.2.toInt)

/-- A left fold that keeps the lesser of two pairs ends at a pair of the list or at the initial one, and below all of
    them. -/
theorem foldl_least (f : EReal × BitVec 32 → EReal × BitVec 32 → EReal × BitVec 32)
    (hf : ∀ a b, f a b = if key a < key b then a else b) (l : List (EReal × BitVec 32)) (p : EReal × BitVec 32) :
    (l.foldl f p = p ∨ l.foldl f p ∈ l) ∧ key (l.foldl f p) ≤ key p ∧ ∀ q ∈ l, key (l.foldl f p) ≤ key q := by
  induction l generalizing p with
  | nil => simp
  | cons a l ih =>
    obtain ⟨h1, h2, h3⟩ := ih (f p a)
    have hle : key (f p a) ≤ key p ∧ key (f p a) ≤ key a := by
      rw [hf]; split
      · exact ⟨le_refl _, le_of_lt ‹_›⟩
      · exact ⟨not_lt.mp ‹_›, le_refl _⟩
    have hor : f p a = p ∨ f p a = a := by rw [hf]; split <;> simp
    simp only [List.foldl_cons]
    refine ⟨?_, h2.trans hle.1, ?_⟩
    · rcases h1 with h1 | h1
      · rcases hor with h | h
        · exact Or.inl (h1.trans h)
        · exact Or.inr (by rw [h1, h]; simp)
      · exact Or.inr (List.mem_cons_of_mem _ h1)
    · intro q hq
      rcases List.mem_cons.mp hq with rfl | hq
      · exact h2.trans hle.2
      · exact h3 q hq

theorem div_real (x : ℝ) {y : ℝ} (h : y ≠ 0) : Ideal.div (x : EReal) (y : EReal) = ((x / y : ℝ) : EReal) := by
  rw [Ideal.div_coe h, ← EReal.coe_mul]; congr 1; ring

theorem log_real {x : ℝ} (h : 0 < x) : Ideal.log (x : EReal) = ((Real.log x : ℝ) : EReal) := by
  rw [Ideal.log_coe, if_neg (not_le.mpr h)]

theorem min_real (x y : ℝ) : min (x : EReal) (y : EReal) = ((min x y : ℝ) : EReal) :=
  (EReal.coe_strictMono.monotone.map_min (a := x) (b := y)).symm

theorem lit_zero : (Ideal.ofBits .f32 0x00000000#32 : EReal) = ((0 : ℝ) : EReal) := by
  simp [Ideal.ofBits, Ideal.ieee, -EReal.coe_mul]
theorem lit_one : (Ideal.ofBits .f32 0x3F800000#32 : EReal) = ((1 : ℝ) : EReal) := by
  simp [Ideal.ofBits, Ideal.ieee, -EReal.coe_mul]; norm_num
theorem lit_two : (Ideal.ofBits .f32 0x40000000#32 : EReal) = ((2 : ℝ) : EReal) := by
  simp [Ideal.ofBits, Ideal.ieee, -EReal.coe_mul]; norm_num
theorem lit_half : (Ideal.ofBits .f32 0x3F000000#32 : EReal) = ((1 / 2 : ℝ) : EReal) := by
  simp [Ideal.ofBits, Ideal.ieee, -EReal.coe_mul]; norm_num
theorem lit_neg_half : (Ideal.ofBits .f32 0xBF000000#32 : EReal) = ((-(1 / 2) : ℝ) : EReal) := by
  simp [Ideal.ofBits, Ideal.ieee, -EReal.coe_mul]; norm_num
theorem lit_quarter : (Ideal.ofBits .f32 0x3E800000#32 : EReal) = ((1 / 4 : ℝ) : EReal) := by
  simp [Ideal.ofBits, Ideal.ieee, -EReal.coe_mul]; norm_num
theorem lit_4096 : (Ideal.ofBits .f32 0x45800000#32 : EReal) = ((4096 : ℝ) : EReal) := by
  simp [Ideal.ofBits, Ideal.ieee, -EReal.coe_mul]; norm_num
theorem lit_1024 : (Ideal.ofBits .f32 0x44800000#32 : EReal) = ((1024 : ℝ) : EReal) := by
  simp [Ideal.ofBits, Ideal.ieee, -EReal.coe_mul]; norm_num
theorem lit_size : (Ideal.ofBits .f32 0x4A000000#32 : EReal) = ((2097152 : ℝ) : EReal) := by
  simp [Ideal.ofBits, Ideal.ieee, -EReal.coe_mul]; norm_num
theorem lit_top : (Ideal.ofBits .f32 0x7F800000#32 : EReal) = ⊤ := by
  simp [Ideal.ofBits, Ideal.ieee]
theorem lit_bot : (Ideal.ofBits .f32 0xFF800000#32 : EReal) = ⊥ := by
  simp [Ideal.ofBits, Ideal.ieee]

end Cert.VQ

end
-- ==== Proof.KBlock.lean ====
/-
  One half of a block's computation at real inputs: the kernel's vectors over 512 rows are the model's numbers.
-/
module

public import proofs.«01_k».proof.Proof.Gen.KernelIdeal.Skeleton
public import proofs.«01_k».proof.Proof.Model
public import proofs.«01_k».proof.Proof.Folds
public import Idealize.ShloMosaic.Lib.Pipeline.Value
public import Idealize.ShloMosaic.Lib.ValueIdx
public import Idealize.ShloMosaic.Lib.ValueIdxCore

@[expose] public section

noncomputable section

namespace Cert.KernelIdeal.Block

open Cert.KernelIdeal Cert.KernelIdeal.Gen Idealize.ShloMosaic Idealize.ShloMosaic.ValueIdx Cert.VQ

/-! ### The kernel's shapes read at an index -/

theorem bcast_col (v : S512x1.Idx → Ideal .f32) (r : Fin 512) (k : Fin 1024) :
    broadcastTo S512x1024 v broadcasts_S512x1_S512x1024 (ix2 r k) = v (ix2 r 0) :=
  broadcastTo_apply v broadcasts_S512x1_S512x1024 (ix2 r k) (ix2 r 0) (fun a => match a with
    | ⟨0, _⟩ => rfl
    | ⟨1, _⟩ => rfl)

theorem bcast_row (v : S1x1024.Idx → Ideal .f32) (r : Fin 512) (k : Fin 1024) :
    broadcastTo S512x1024 v broadcasts_S1x1024_S512x1024 (ix2 r k) = v (ix2 0 k) :=
  broadcastTo_apply v broadcasts_S1x1024_S512x1024 (ix2 r k) (ix2 0 k) (fun a => match a with
    | ⟨0, _⟩ => rfl
    | ⟨1, _⟩ => rfl)

theorem cast_col (v : S512.Idx → Ideal .f32) (r : Fin 512) :
    shapeCast S512x1 v shapeCasts_S512_S512x1 (ix2 r 0) = v (ix1 r) :=
  shapeCast_apply v shapeCasts_S512_S512x1 (ix2 r 0) (ix1 r) (by
    rewrite [Shape.rowMajor_val_one, Shape.rowMajor_val_two]
    show r.val = r.val * 1 + 0
    omega)

theorem lift_row (r : Fin 512) (k : Fin 1024) : reduces_S512x1024_S512.lift (ix1 r) k = ix2 r k :=
  funext fun a => Fin.ext (match a with | ⟨0, _⟩ => rfl | ⟨1, _⟩ => rfl)

theorem lift_dim (r : Fin 512) (d : Fin 256) : reduces_S512x256_S512.lift (ix1 r) d = ix2 r d :=
  funext fun a => Fin.ext (match a with | ⟨0, _⟩ => rfl | ⟨1, _⟩ => rfl)

/-- A row sum of 1024 real numbers. -/
theorem rowSum (v : FVec Ideal S512x1024 .f32) (f : Fin 512 → Fin 1024 → ℝ) (h : ∀ r k, v (ix2 r k) = ((f r k : ℝ) : EReal))
    (r : Fin 512) :
    shapeCast S512x1 (multiReduction .add [1] S512 v 0x00000000#32 reduces_S512x1024_S512 (.inl rfl) rfl)
      shapeCasts_S512_S512x1 (ix2 r 0) = ((∑ k, f r k : ℝ) : EReal) := by
  refine (cast_col _ r).trans ((Ideal.multiReduction_add_single _ _ _ _ _ _).trans ?_)
  rw [← coe_sum]
  exact Finset.sum_congr rfl fun k _ => (congrArg v (lift_row r k)).trans (h r k)

/-- A row sum of 256 real numbers. -/
theorem dimSum (v : FVec Ideal S512x256 .f32) (f : Fin 512 → Fin 256 → ℝ) (h : ∀ r d, v (ix2 r d) = ((f r d : ℝ) : EReal))
    (r : Fin 512) :
    shapeCast S512x1 (multiReduction .add [1] S512 v 0x00000000#32 reduces_S512x256_S512 (.inl rfl) rfl)
      shapeCasts_S512_S512x1 (ix2 r 0) = ((∑ d, f r d : ℝ) : EReal) := by
  refine (cast_col _ r).trans ((Ideal.multiReduction_add_single _ _ _ _ _ _).trans ?_)
  rw [← coe_sum]
  exact Finset.sum_congr rfl fun d _ => (congrArg v (lift_dim r d)).trans (h r d)

/-- A row minimum of 1024 real numbers. -/
theorem rowMin (v : FVec Ideal S512x1024 .f32) (f : Fin 512 → Fin 1024 → ℝ) (h : ∀ r k, v (ix2 r k) = ((f r k : ℝ) : EReal))
    (r : Fin 512) :
    shapeCast S512x1 (multiReduction .minimumf [1] S512 v 0x7F800000#32 reduces_S512x1024_S512 (.inl rfl) rfl)
      shapeCasts_S512_S512x1 (ix2 r 0) = ((Finset.univ.inf' Finset.univ_nonempty (f r) : ℝ) : EReal) := by
  rw [← fold_min_coe]
  refine (cast_col _ r).trans ((multiReduction_minimumf_eq_fold _ _ _ _ _ _).trans ?_)
  refine (reduces_S512x1024_S512.fold_filter_drop_single _ _ v (ix1 r)).trans ?_
  show Finset.fold min (Ideal.ofBits .f32 0x7F800000#32) (fun k : Fin 1024 => v (reduces_S512x1024_S512.lift (ix1 r) k)) Finset.univ = _
  rw [lit_top]
  congr 1
  exact funext fun k => (congrArg v (lift_row r k)).trans (h r k)

/-- The total of a 512 by 1024 array of real numbers, as the kernel takes it. -/
theorem total (v : FVec Ideal S512x1024 .f32) (f : Fin 512 → Fin 1024 → ℝ) (h : ∀ r k, v (ix2 r k) = ((f r k : ℝ) : EReal)) :
    extractAt ![0, 0, 0] (shapeCast S1x1x1 (multiReduction .add [1, 2] S1
      (shapeCast S1x512x1024 v shapeCasts_S512x1024_S1x512x1024) 0x00000000#32 reduces_S1x512x1024_S1 (.inl rfl) rfl)
      shapeCasts_S1_S1x1x1) inpos_S1x1x1_p0_0_0 = ((∑ r, ∑ k, f r k : ℝ) : EReal) := by
  show multiReduction .add [1, 2] S1
      (shapeCast S1x512x1024 v shapeCasts_S512x1024_S1x512x1024) 0x00000000#32 reduces_S1x512x1024_S1 (.inl rfl) rfl _ = _
  refine (Ideal.multiReduction_add_total _ _ _ (fun b => match b with | ⟨0, _⟩ => rfl) _ _ _).trans ?_
  refine (Equiv.sum_comp (Shape.reshapeEquiv shapeCasts_S512x1024_S1x512x1024) v).trans ?_
  rw [sum_idx2]
  simp only [h, coe_sum]

/-- The total of a column of 512 real numbers, as the kernel takes it. -/
theorem totalCol (v : FVec Ideal S512x1 .f32) (f : Fin 512 → ℝ) (h : ∀ r, v (ix2 r 0) = ((f r : ℝ) : EReal)) :
    extractAt ![0, 0, 0] (shapeCast S1x1x1 (multiReduction .add [1, 2] S1
      (shapeCast S1x512x1 v shapeCasts_S512x1_S1x512x1) 0x00000000#32 reduces_S1x512x1_S1 (.inl rfl) rfl)
      shapeCasts_S1_S1x1x1) inpos_S1x1x1_p0_0_0 = ((∑ r, f r : ℝ) : EReal) := by
  show multiReduction .add [1, 2] S1
      (shapeCast S1x512x1 v shapeCasts_S512x1_S1x512x1) 0x00000000#32 reduces_S1x512x1_S1 (.inl rfl) rfl _ = _
  refine (Ideal.multiReduction_add_total _ _ _ (fun b => match b with | ⟨0, _⟩ => rfl) _ _ _).trans ?_
  refine (Equiv.sum_comp (Shape.reshapeEquiv shapeCasts_S512x1_S1x512x1) v).trans ?_
  rw [sum_idx2, ← coe_sum]
  refine Finset.sum_congr rfl fun r _ => ?_
  rw [Fin.sum_univ_one]
  exact h r

/-! ### The two matrix products -/

theorem cross_lhs (r : Fin 512) (k : Fin 1024) (q : dot_S512x256_S1024x256_S512x1024_1_1_0_0_n_n.contr.Idx) (d : Fin 256)
    (hq : (q ⟨0, by decide⟩).val = d.val) :
    dot_S512x256_S1024x256_S512x1024_1_1_0_0_n_n.lhsIdx (ix2 r k) q = ix2 r d := by
  refine funext fun a => Fin.ext ?_
  match a with
  | ⟨0, _⟩ =>
    show (dot_S512x256_S1024x256_S512x1024_1_1_0_0_n_n.lhsIdx (ix2 r k) q 0).val = r.val
    unfold DotDims.lhsIdx
    rw [dif_neg (show ¬(0 : Fin S512x256.rank) ∈ dot_S512x256_S1024x256_S512x1024_1_1_0_0_n_n.lhsBatch by decide),
      dif_pos (show (0 : Fin S512x256.rank) ∈ dot_S512x256_S1024x256_S512x1024_1_1_0_0_n_n.lhsNonContracting by decide)]
    rfl
  | ⟨1, _⟩ => exact (dot_S512x256_S1024x256_S512x1024_1_1_0_0_n_n.lhsIdx_val_of_single rfl (ix2 r k) q).trans hq

theorem cross_rhs (r : Fin 512) (k : Fin 1024) (q : dot_S512x256_S1024x256_S512x1024_1_1_0_0_n_n.contr.Idx) (d : Fin 256)
    (hq : (q ⟨0, by decide⟩).val = d.val) :
    dot_S512x256_S1024x256_S512x1024_1_1_0_0_n_n.rhsIdx (ix2 r k) q = ix2 k d := by
  refine funext fun a => Fin.ext ?_
  match a with
  | ⟨0, _⟩ =>
    show (dot_S512x256_S1024x256_S512x1024_1_1_0_0_n_n.rhsIdx (ix2 r k) q 0).val = k.val
    unfold DotDims.rhsIdx
    rw [dif_neg (show ¬(0 : Fin S1024x256.rank) ∈ dot_S512x256_S1024x256_S512x1024_1_1_0_0_n_n.rhsBatch by decide),
      dif_pos (show (0 : Fin S1024x256.rank) ∈ dot_S512x256_S1024x256_S512x1024_1_1_0_0_n_n.rhsNonContracting by decide)]
    rfl
  | ⟨1, _⟩ => exact (dot_S512x256_S1024x256_S512x1024_1_1_0_0_n_n.rhsIdx_val_of_single rfl (ix2 r k) q).trans hq

/-- The rows against the doubled codebook. -/
theorem cross_mul (u : FVec Ideal S512x256 .f32) (w : FVec Ideal S1024x256 .f32) (f : Fin 512 → Fin 256 → ℝ)
    (g : Fin 1024 → Fin 256 → ℝ) (hu : ∀ r d, u (ix2 r d) = ((f r d : ℝ) : EReal))
    (hw : ∀ k d, w (ix2 k d) = ((g k d : ℝ) : EReal)) (r : Fin 512) (k : Fin 1024) :
    matmul dot_S512x256_S1024x256_S512x1024_1_1_0_0_n_n none u w (constant S512x1024 .f32 0x00000000#32) (ix2 r k)
      = ((∑ d, f r d * g k d : ℝ) : EReal) := by
  simp only [matmul]
  rw [Ideal.matmul_constant_zero_apply,
    ← Equiv.sum_comp (contrEquiv1 dot_S512x256_S1024x256_S512x1024_1_1_0_0_n_n 256 rfl rfl).symm, ← coe_sum]
  refine Finset.sum_congr rfl fun d _ => ?_
  have hd := contrEquiv1_symm_val dot_S512x256_S1024x256_S512x1024_1_1_0_0_n_n 256 rfl rfl d
  rw [cross_lhs r k _ d hd, cross_rhs r k _ d hd, hu, hw, ← EReal.coe_mul]

theorem take_lhs (r : Fin 512) (d : Fin 256) (q : dot_S512x1024_S1024x256_S512x256_1_0_0_1_n_n.contr.Idx) (k : Fin 1024)
    (hq : (q ⟨0, by decide⟩).val = k.val) :
    dot_S512x1024_S1024x256_S512x256_1_0_0_1_n_n.lhsIdx (ix2 r d) q = ix2 r k := by
  refine funext fun a => Fin.ext ?_
  match a with
  | ⟨0, _⟩ =>
    show (dot_S512x1024_S1024x256_S512x256_1_0_0_1_n_n.lhsIdx (ix2 r d) q 0).val = r.val
    unfold DotDims.lhsIdx
    rw [dif_neg (show ¬(0 : Fin S512x1024.rank) ∈ dot_S512x1024_S1024x256_S512x256_1_0_0_1_n_n.lhsBatch by decide),
      dif_pos (show (0 : Fin S512x1024.rank) ∈ dot_S512x1024_S1024x256_S512x256_1_0_0_1_n_n.lhsNonContracting by decide)]
    rfl
  | ⟨1, _⟩ => exact (dot_S512x1024_S1024x256_S512x256_1_0_0_1_n_n.lhsIdx_val_of_single rfl (ix2 r d) q).trans hq

theorem take_rhs (r : Fin 512) (d : Fin 256) (q : dot_S512x1024_S1024x256_S512x256_1_0_0_1_n_n.contr.Idx) (k : Fin 1024)
    (hq : (q ⟨0, by decide⟩).val = k.val) :
    dot_S512x1024_S1024x256_S512x256_1_0_0_1_n_n.rhsIdx (ix2 r d) q = ix2 k d := by
  refine funext fun a => Fin.ext ?_
  match a with
  | ⟨0, _⟩ => exact (dot_S512x1024_S1024x256_S512x256_1_0_0_1_n_n.rhsIdx_val_of_single rfl (ix2 r d) q).trans hq
  | ⟨1, _⟩ =>
    show (dot_S512x1024_S1024x256_S512x256_1_0_0_1_n_n.rhsIdx (ix2 r d) q 1).val = d.val
    unfold DotDims.rhsIdx
    rw [dif_neg (show ¬(1 : Fin S1024x256.rank) ∈ dot_S512x1024_S1024x256_S512x256_1_0_0_1_n_n.rhsBatch by decide),
      dif_pos (show (1 : Fin S1024x256.rank) ∈ dot_S512x1024_S1024x256_S512x256_1_0_0_1_n_n.rhsNonContracting by decide)]
    rfl

/-- A matrix of selections against the doubled codebook. -/
theorem take_mul (u : FVec Ideal S512x1024 .f32) (w : FVec Ideal S1024x256 .f32) (f : Fin 512 → Fin 1024 → ℝ)
    (g : Fin 1024 → Fin 256 → ℝ) (hu : ∀ r k, u (ix2 r k) = ((f r k : ℝ) : EReal))
    (hw : ∀ k d, w (ix2 k d) = ((g k d : ℝ) : EReal)) (r : Fin 512) (d : Fin 256) :
    matmul dot_S512x1024_S1024x256_S512x256_1_0_0_1_n_n none u w (constant S512x256 .f32 0x00000000#32) (ix2 r d)
      = ((∑ k, f r k * g k d : ℝ) : EReal) := by
  simp only [matmul]
  rw [Ideal.matmul_constant_zero_apply,
    ← Equiv.sum_comp (contrEquiv1 dot_S512x1024_S1024x256_S512x256_1_0_0_1_n_n 1024 rfl rfl).symm, ← coe_sum]
  refine Finset.sum_congr rfl fun k _ => ?_
  have hk := contrEquiv1_symm_val dot_S512x1024_S1024x256_S512x256_1_0_0_1_n_n 1024 rfl rfl k
  rw [take_lhs r d _ k hk, take_rhs r d _ k hk, hu, hw, ← EReal.coe_mul]

/-! ### The distances and their least -/

/-- The vector of distances of the rows `u`. -/
def distOf (u : FVec Ideal S512x256 .f32) (v1 : FVec Ideal S1024x256 .f32) (v3 : FVec Ideal S1x1024 .f32) : FVec Ideal S512x1024 .f32 :=
  subf (addf (broadcastTo S512x1024 (shapeCast S512x1 (multiReduction .add [1] S512 (mulf u u) 0x00000000#32
      reduces_S512x256_S512 (.inl rfl) rfl) shapeCasts_S512_S512x1) broadcasts_S512x1_S512x1024)
    (broadcastTo S512x1024 v3 broadcasts_S1x1024_S512x1024))
    (matmul dot_S512x256_S1024x256_S512x1024_1_1_0_0_n_n none u v1 (constant S512x1024 .f32 0x00000000#32))

/-- The column of least entries of `D`'s rows. -/
def minOf (D : FVec Ideal S512x1024 .f32) : FVec Ideal S512x1 .f32 :=
  shapeCast S512x1 (multiReduction .minimumf [1] S512 D 0x7F800000#32 reduces_S512x1024_S512 (.inl rfl) rfl) shapeCasts_S512_S512x1

variable {u : FVec Ideal S512x256 .f32} {v1 : FVec Ideal S1024x256 .f32} {v3 : FVec Ideal S1x1024 .f32}
  {D : FVec Ideal S512x1024 .f32} {M : FVec Ideal S512x1 .f32} {V : Fin 512 → Row} {C : Book}

theorem dist_of (hu : ∀ r d, u (ix2 r d) = ((V r d : ℝ) : EReal)) (h1 : ∀ k d, v1 (ix2 k d) = ((2 * C k d : ℝ) : EReal))
    (h3 : ∀ k, v3 (ix2 0 k) = ((∑ d, C k d * C k d : ℝ) : EReal)) (r : Fin 512) (k : Fin 1024) :
    distOf u v1 v3 (ix2 r k) = ((dist (V r) C k : ℝ) : EReal) := by
  unfold distOf
  rw [subf_apply, addf_apply, bcast_col, bcast_row, h3, cross_mul u v1 V (fun k d => 2 * C k d) hu h1,
    dimSum (mulf u u) (fun r d => V r d * V r d) (fun r d => by rw [mulf_apply, hu]; exact (EReal.coe_mul _ _).symm)]
  show _ - _ = _
  rw [show ((∑ d, V r d * V r d : ℝ) : EReal) + ((∑ d, C k d * C k d : ℝ) : EReal) = _ from (EReal.coe_add _ _).symm, ← EReal.coe_sub]
  congr 1
  unfold VQ.dist
  rw [Finset.mul_sum]
  congr 1
  exact Finset.sum_congr rfl fun d _ => by ring

theorem min_of (hD : ∀ r k, D (ix2 r k) = ((dist (V r) C k : ℝ) : EReal)) (r : Fin 512) :
    minOf D (ix2 r 0) = ((near (V r) C : ℝ) : EReal) :=
  rowMin D (fun r k => dist (V r) C k) hD r

/-! ### Choosing the code -/

theorem cmp_oeq (x y : ℝ) : Ideal.cmp .oeq (x : EReal) (y : EReal) = BitVec.ofBool (decide (x = y)) := by
  simp [Ideal.cmp, EReal.coe_eq_coe_iff]

/-- The column numbers as floating-point numbers. -/
def numOf : FVec Ideal S512x1024 .f32 := sitofp .f32 (iota .tc S512x1024 32 [1] iota_S512x1024_d1_w32)

theorem num_of (r : Fin 512) (k : Fin 1024) : numOf (ix2 r k) = (((k.val : ℝ)) : EReal) := by
  unfold numOf
  rw [sitofp_apply, iota_single_apply]
  show (((BitVec.ofNat 32 k.val).toInt : ℝ) : EReal) = _
  have hk := k.isLt
  rw [show (BitVec.ofNat 32 k.val).toInt = (k.val : Int) by
    rw [BitVec.toInt_eq_toNat_of_lt (by rw [BitVec.toNat_ofNat]; omega), BitVec.toNat_ofNat]; omega]
  simp

/-- The column numbers where `D` meets `M`, and 1024 elsewhere. -/
def maskOf (D : FVec Ideal S512x1024 .f32) (M : FVec Ideal S512x1 .f32) : FVec Ideal S512x1024 .f32 :=
  select (cmpf .oeq D (broadcastTo S512x1024 M broadcasts_S512x1_S512x1024)) numOf
    (broadcast S512x1024 (Scalar.ofBits .f32 0x44800000#32))

theorem mask_of (hD : ∀ r k, D (ix2 r k) = ((VQ.dist (V r) C k : ℝ) : EReal)) (hM : ∀ r, M (ix2 r 0) = ((near (V r) C : ℝ) : EReal))
    (r : Fin 512) (k : Fin 1024) :
    maskOf D M (ix2 r k) = ((if VQ.dist (V r) C k = near (V r) C then (k.val : ℝ) else 1024 : ℝ) : EReal) := by
  unfold maskOf
  rw [select_apply, cmpf_apply, bcast_col, hD, hM, num_of, broadcast_apply]
  show Scalar.select (Ideal.cmp .oeq _ _) _ (Ideal.ofBits .f32 0x44800000#32) = _
  rw [cmp_oeq, lit_1024]
  by_cases h : VQ.dist (V r) C k = near (V r) C
  · rw [if_pos h, decide_eq_true h]; rfl
  · rw [if_neg h, decide_eq_false h]; rfl

theorem least_number (v : Row) (C : Book) :
    Finset.univ.inf' Finset.univ_nonempty (fun k : Fin 1024 => if VQ.dist v C k = near v C then (k.val : ℝ) else 1024)
      = ((pick v C).val : ℝ) := by
  refine le_antisymm ((Finset.inf'_le _ (Finset.mem_univ (pick v C))).trans_eq (if_pos (dist_pick v C))) (Finset.le_inf' _ _ fun k _ => ?_)
  by_cases h : VQ.dist v C k = near v C
  · rw [if_pos h]; exact_mod_cast pick_le v C h
  · rw [if_neg h]; exact_mod_cast (pick v C).isLt.le

/-- The selection matrix of a masked array: a one at each row's least number. -/
def hotOf (K : FVec Ideal S512x1024 .f32) : FVec Ideal S512x1024 .f32 :=
  sitofp .f32 (extui 32 (cmpf .oeq numOf (broadcastTo S512x1024 (minOf K) broadcasts_S512x1_S512x1024)) natLt_1_32)

theorem hot_of {K : FVec Ideal S512x1024 .f32}
    (hK : ∀ r k, K (ix2 r k) = ((if VQ.dist (V r) C k = near (V r) C then (k.val : ℝ) else 1024 : ℝ) : EReal)) (r : Fin 512) (k : Fin 1024) :
    hotOf K (ix2 r k) = ((if k = pick (V r) C then 1 else 0 : ℝ) : EReal) := by
  unfold hotOf
  rw [sitofp_apply, extui_apply, cmpf_apply, bcast_col, num_of]
  unfold minOf
  rw [rowMin K _ hK r, least_number]
  show (((BitVec.setWidth 32 (Ideal.cmp .oeq _ _)).toInt : ℝ) : EReal) = _
  rw [cmp_oeq]
  generalize pick (V r) C = p
  by_cases h : k = p
  · rw [if_pos h, decide_eq_true (by rw [h])]
    have e : (BitVec.setWidth 32 (BitVec.ofBool true)).toInt = 1 := by decide
    rw [e]; norm_num
  · rw [if_neg h, decide_eq_false (fun hv => h (Fin.ext (by exact_mod_cast hv)))]
    have e : (BitVec.setWidth 32 (BitVec.ofBool false)).toInt = 0 := by decide
    rw [e]; norm_num

/-- The rows moved to their chosen codes. -/
def moveOf (u : FVec Ideal S512x256 .f32) (v1 : FVec Ideal S1024x256 .f32) (K : FVec Ideal S512x1024 .f32) : FVec Ideal S512x256 .f32 :=
  addf u (subf (mulf (broadcast S512x256 (Scalar.ofBits .f32 0x3F000000#32))
    (matmul dot_S512x1024_S1024x256_S512x256_1_0_0_1_n_n none (hotOf K) v1 (constant S512x256 .f32 0x00000000#32))) u)

theorem move_of {K : FVec Ideal S512x1024 .f32} (hu : ∀ r d, u (ix2 r d) = ((V r d : ℝ) : EReal))
    (h1 : ∀ k d, v1 (ix2 k d) = ((2 * C k d : ℝ) : EReal))
    (hK : ∀ r k, K (ix2 r k) = ((if VQ.dist (V r) C k = near (V r) C then (k.val : ℝ) else 1024 : ℝ) : EReal)) (r : Fin 512) (d : Fin 256) :
    moveOf u v1 K (ix2 r d) = ((moved (V r) C d : ℝ) : EReal) := by
  unfold moveOf
  rw [addf_apply, subf_apply, mulf_apply, broadcast_apply, hu,
    take_mul (hotOf K) v1 (fun r k => if k = pick (V r) C then 1 else 0) (fun k d => 2 * C k d) (hot_of hK) h1]
  show _ + (Ideal.ofBits .f32 0x3F000000#32 * _ - _) = _
  rw [lit_half, ← EReal.coe_mul, ← EReal.coe_sub, ← EReal.coe_add]
  congr 1
  rw [moved]
  simp only [ite_mul, one_mul, zero_mul, Finset.sum_ite_eq', Finset.mem_univ, if_true]
  ring

/-! ### The probabilities -/

theorem gap_of (hD : ∀ r k, D (ix2 r k) = ((VQ.dist (V r) C k : ℝ) : EReal)) (hM : ∀ r, M (ix2 r 0) = ((near (V r) C : ℝ) : EReal))
    (r : Fin 512) (k : Fin 1024) : k0_pay11 D M (ix2 r k) = ((near (V r) C - VQ.dist (V r) C k : ℝ) : EReal) := by
  show subf (broadcastTo S512x1024 M broadcasts_S512x1_S512x1024) D (ix2 r k) = _
  rw [subf_apply, bcast_col, hD, hM, ← EReal.coe_sub]

theorem wt_of (hD : ∀ r k, D (ix2 r k) = ((VQ.dist (V r) C k : ℝ) : EReal)) (hM : ∀ r, M (ix2 r 0) = ((near (V r) C : ℝ) : EReal))
    (r : Fin 512) (k : Fin 1024) : k0_pay12 D M (ix2 r k) = ((wt (V r) C k : ℝ) : EReal) := by
  show Ideal.exp (k0_pay11 D M (ix2 r k)) = _
  rw [gap_of hD hM, Ideal.exp_coe]
  rfl

theorem tot_of (hD : ∀ r k, D (ix2 r k) = ((VQ.dist (V r) C k : ℝ) : EReal)) (hM : ∀ r, M (ix2 r 0) = ((near (V r) C : ℝ) : EReal))
    (r : Fin 512) : k0_pay13 D M (ix2 r 0) = ((tot (V r) C : ℝ) : EReal) :=
  rowSum (k0_pay12 D M) (fun r k => wt (V r) C k) (wt_of hD hM) r

theorem prob_of (hD : ∀ r k, D (ix2 r k) = ((VQ.dist (V r) C k : ℝ) : EReal)) (hM : ∀ r, M (ix2 r 0) = ((near (V r) C : ℝ) : EReal))
    (r : Fin 512) (k : Fin 1024) : k0_pay14 D M (ix2 r k) = ((prob (V r) C k : ℝ) : EReal) := by
  show mulf (k0_pay12 D M) (broadcastTo S512x1024 (divf (broadcast S512x1 (Scalar.ofBits .f32 0x3F800000#32)) (k0_pay13 D M))
    broadcasts_S512x1_S512x1024) (ix2 r k) = _
  rw [mulf_apply, bcast_col, divf_apply, wt_of hD hM, tot_of hD hM, broadcast_apply]
  show _ * Ideal.div (Ideal.ofBits .f32 0x3F800000#32) _ = _
  rw [lit_one, div_real _ (tot_pos (V r) C).ne', ← EReal.coe_mul]
  congr 1
  rw [prob]
  ring

theorem logp_of (hD : ∀ r k, D (ix2 r k) = ((VQ.dist (V r) C k : ℝ) : EReal)) (hM : ∀ r, M (ix2 r 0) = ((near (V r) C : ℝ) : EReal))
    (r : Fin 512) (k : Fin 1024) : k0_pay15 D M (ix2 r k) = ((logp (V r) C k : ℝ) : EReal) := by
  show subf (k0_pay11 D M) (broadcastTo S512x1024 (log (k0_pay13 D M)) broadcasts_S512x1_S512x1024) (ix2 r k) = _
  rw [subf_apply, bcast_col, gap_of hD hM]
  show _ - Ideal.log (k0_pay13 D M (ix2 r 0)) = _
  rw [tot_of hD hM, log_real (tot_pos (V r) C), ← EReal.coe_sub]
  rfl

/-! ### Both halves together -/

variable {P L D' : FVec Ideal S512x1024 .f32} {M' : FVec Ideal S512x1 .f32} {W : Fin 512 → Row}

theorem went_of (hP : ∀ r k, P (ix2 r k) = ((prob (V r) C k : ℝ) : EReal)) (hL : ∀ r k, L (ix2 r k) = ((logp (V r) C k : ℝ) : EReal))
    (hD : ∀ r k, D' (ix2 r k) = ((VQ.dist (W r) C k : ℝ) : EReal)) (hM : ∀ r, M' (ix2 r 0) = ((near (W r) C : ℝ) : EReal))
    (r : Fin 512) (k : Fin 1024) : k0_pay29 P L D' M' (ix2 r k) = ((went (V r) (W r) C k : ℝ) : EReal) := by
  show addf (mulf P L) (mulf (k0_pay14 D' M') (k0_pay15 D' M')) (ix2 r k) = _
  rw [addf_apply, mulf_apply, mulf_apply, hP, hL, prob_of hD hM, logp_of hD hM, ← EReal.coe_mul, ← EReal.coe_mul, ← EReal.coe_add]
  rfl

theorem js_of (hP : ∀ r k, P (ix2 r k) = ((prob (V r) C k : ℝ) : EReal)) (hL : ∀ r k, L (ix2 r k) = ((logp (V r) C k : ℝ) : EReal))
    (hD : ∀ r k, D' (ix2 r k) = ((VQ.dist (W r) C k : ℝ) : EReal)) (hM : ∀ r, M' (ix2 r 0) = ((near (W r) C : ℝ) : EReal)) :
    k0_pay30 P L D' M' = ((∑ r, ∑ k, jsk (V r) (W r) C k : ℝ) : EReal) := by
  refine total (subf (k0_pay29 P L D' M') (mulf (addf P (k0_pay14 D' M')) (log (mulf (broadcast S512x1024 (Scalar.ofBits .f32 0x3F000000#32))
    (addf P (k0_pay14 D' M')))))) (fun r k => jsk (V r) (W r) C k) fun r k => ?_
  rw [subf_apply, went_of hP hL hD hM, mulf_apply, addf_apply, hP, prob_of hD hM, ← EReal.coe_add]
  show _ - _ * Ideal.log (Ideal.ofBits .f32 0x3F000000#32 * (P (ix2 r k) + k0_pay14 D' M' (ix2 r k))) = _
  rw [hP, prob_of hD hM, lit_half, ← EReal.coe_add, ← EReal.coe_mul, log_real (mean_pos (V r) (W r) C k), ← EReal.coe_mul, ← EReal.coe_sub]
  rfl

/-- The three sums a block adds up, in lanes 0, 1 and 2. -/
theorem lane_of {a b : ℝ} {E : FVec Ideal S512x1024 .f32} {e : Fin 512 → Fin 1024 → ℝ} (hE : ∀ r k, E (ix2 r k) = ((e r k : ℝ) : EReal))
    (l : Fin 128) : k0_pay1 (F := Ideal) ((a : ℝ) : EReal) E ((b : ℝ) : EReal) (ix4 0 0 0 l)
      = ((if l.val = 0 then a else if l.val = 1 then 1 / 2 * b else if l.val = 2 then -(1 / 2) * ∑ r, ∑ k, e r k else 0 : ℝ) : EReal) := by
  unfold k0_pay1
  rw [shapeCast_apply _ _ (ix4 0 0 0 l) (ix2 0 l) (by
    rewrite [Shape.rowMajor_val_two, Shape.rowMajor_val_four]
    show 0 * 128 + l.val = ((0 * 1 + 0) * 1 + 0) * 128 + l.val
    omega)]
  rw [addf_apply, addf_apply, select_apply, select_apply, select_apply]
  simp only [broadcast_apply]
  have hb : ∀ c : BitVec 32, cmpi .eq (iota .tc S1x128 32 [1] iota_S1x128_d1_w32) (broadcast S1x128 c) (ix2 0 l)
      = BitVec.ofBool (decide (BitVec.ofNat 32 l.val = c)) := fun c => by
    show IntOp.cmpi .eq (iota .tc S1x128 32 [1] iota_S1x128_d1_w32 (ix2 0 l)) c = _
    rw [iota_single_apply]
    rfl
  rw [hb, hb, hb]
  have T : Scalar.mulf (F := Ideal) (Scalar.ofBits .f32 0xBF000000#32) (extractAt ![0, 0, 0] (shapeCast S1x1x1 (multiReduction .add [1, 2] S1
      (shapeCast S1x512x1024 E shapeCasts_S512x1024_S1x512x1024) 0x00000000#32 reduces_S1x512x1024_S1 (.inl rfl) rfl)
      shapeCasts_S1_S1x1x1) inpos_S1x1x1_p0_0_0) = ((-(1 / 2) * ∑ r, ∑ k, e r k : ℝ) : EReal) := by
    refine (congrArg (Ideal.ofBits .f32 0xBF000000#32 * ·) (total E e hE)).trans ?_
    show Ideal.ofBits .f32 0xBF000000#32 * _ = _
    rw [lit_neg_half, ← EReal.coe_mul]
  have B : Scalar.mulf (F := Ideal) (Scalar.ofBits .f32 0x3F000000#32) ((b : ℝ) : EReal) = ((1 / 2 * b : ℝ) : EReal) := by
    show Ideal.ofBits .f32 0x3F000000#32 * _ = _
    rw [lit_half, ← EReal.coe_mul]
  have Z : (Scalar.ofBits .f32 0x00000000#32 : Ideal .f32) = ((0 : ℝ) : EReal) := lit_zero
  have hl := l.isLt
  have e0 : (BitVec.ofNat 32 l.val = 0#32) ↔ l.val = 0 := by
    rw [← BitVec.toNat_inj, BitVec.toNat_ofNat, BitVec.toNat_ofNat]; omega
  have e1 : (BitVec.ofNat 32 l.val = 1#32) ↔ l.val = 1 := by
    rw [← BitVec.toNat_inj, BitVec.toNat_ofNat, BitVec.toNat_ofNat]; omega
  have e2 : (BitVec.ofNat 32 l.val = 2#32) ↔ l.val = 2 := by
    rw [← BitVec.toNat_inj, BitVec.toNat_ofNat, BitVec.toNat_ofNat]; omega
  refine (congr (congrArg _ (congr (congrArg _ (congrArg₂ (Scalar.select _) rfl Z)) (congrArg₂ (Scalar.select _) B Z)))
    (congrArg₂ (Scalar.select _) T Z)).trans ?_
  simp only [e0, e1, e2]
  generalize (∑ r, ∑ k, e r k : ℝ) = t
  by_cases h0 : l.val = 0
  · have h1 : ¬ l.val = 1 := by omega
    have h2 : ¬ l.val = 2 := by omega
    rw [decide_eq_true h0, decide_eq_false h1, decide_eq_false h2, if_pos h0]
    show (a : EReal) + ((0 : ℝ) : EReal) + ((0 : ℝ) : EReal) = _
    rw [← EReal.coe_add, ← EReal.coe_add, add_zero, add_zero]
  · by_cases h1 : l.val = 1
    · have h2 : ¬ l.val = 2 := by omega
      rw [decide_eq_false h0, decide_eq_true h1, decide_eq_false h2, if_neg h0, if_pos h1]
      show ((0 : ℝ) : EReal) + ((1 / 2 * b : ℝ) : EReal) + ((0 : ℝ) : EReal) = _
      rw [← EReal.coe_add, ← EReal.coe_add, add_zero, zero_add]
    · by_cases h2 : l.val = 2
      · rw [decide_eq_false h0, decide_eq_false h1, decide_eq_true h2, if_neg h0, if_neg h1, if_pos h2]
        show ((0 : ℝ) : EReal) + ((0 : ℝ) : EReal) + ((-(1 / 2) * t : ℝ) : EReal) = _
        rw [← EReal.coe_add, ← EReal.coe_add, zero_add, zero_add]
      · rw [decide_eq_false h0, decide_eq_false h1, decide_eq_false h2, if_neg h0, if_neg h1, if_neg h2]
        show ((0 : ℝ) : EReal) + ((0 : ℝ) : EReal) + ((0 : ℝ) : EReal) = _
        rw [← EReal.coe_add, ← EReal.coe_add, add_zero, add_zero]

/-! ### The blocks read and written -/

theorem rows_fst (z : FVec Ideal S2x1x256x512 .f32) (r : Fin 512) (d : Fin 256) : k0_pay5 z (ix2 r d) = z (ix4 0 0 d r) := by
  unfold k0_pay5 k0_pay4
  rw [transpose_apply _ _ _ (ix2 r d) (ix2 d r) (fun a => match a with | ⟨0, _⟩ => rfl | ⟨1, _⟩ => rfl),
    shapeCast_apply _ _ (ix2 d r) (ix4 0 0 d r) (by
      rewrite [Shape.rowMajor_val_two, Shape.rowMajor_val_four]
      show ((0 * 1 + 0) * 256 + d.val) * 512 + r.val = d.val * 512 + r.val
      omega),
    extractStridedSlice_apply _ _ _ (ix4 0 0 d r) (ix4 0 0 d r) (fun a => match a with
      | ⟨0, _⟩ => rfl | ⟨1, _⟩ => rfl | ⟨2, _⟩ => (Nat.zero_add _).symm | ⟨3, _⟩ => (Nat.zero_add _).symm)]
  exact shapeCast_apply _ _ _ _ rfl

theorem rows_snd (z : FVec Ideal S2x1x256x512 .f32) (r : Fin 512) (d : Fin 256) : k0_pay17 (k0_pay4 z) (ix2 r d) = z (ix4 1 0 d r) := by
  unfold k0_pay17 k0_pay4
  rw [transpose_apply _ _ _ (ix2 r d) (ix2 d r) (fun a => match a with | ⟨0, _⟩ => rfl | ⟨1, _⟩ => rfl),
    shapeCast_apply _ _ (ix2 d r) (ix4 0 0 d r) (by
      rewrite [Shape.rowMajor_val_two, Shape.rowMajor_val_four]
      show ((0 * 1 + 0) * 256 + d.val) * 512 + r.val = d.val * 512 + r.val
      omega),
    extractStridedSlice_apply _ _ _ (ix4 0 0 d r) (ix4 1 0 d r) (fun a => match a with
      | ⟨0, _⟩ => rfl | ⟨1, _⟩ => rfl | ⟨2, _⟩ => (Nat.zero_add _).symm | ⟨3, _⟩ => (Nat.zero_add _).symm)]
  exact shapeCast_apply _ _ _ _ rfl

/-- A block of moved rows, stored with the rows along the last axis. -/
theorem move_block (x : FVec Ideal S512x256 .f32) (d : Fin 256) (r : Fin 512) : k0_pay10 x (ix4 0 0 d r) = x (ix2 r d) := by
  unfold k0_pay10
  rw [shapeCast_apply _ _ (ix4 0 0 d r) (ix2 d r) (by
      rewrite [Shape.rowMajor_val_two, Shape.rowMajor_val_four]
      show d.val * 512 + r.val = ((0 * 1 + 0) * 256 + d.val) * 512 + r.val
      omega),
    transpose_apply _ _ _ (ix2 d r) (ix2 r d) (fun a => match a with | ⟨0, _⟩ => rfl | ⟨1, _⟩ => rfl)]

theorem prob_block (D : FVec Ideal S512x1024 .f32) (M : FVec Ideal S512x1 .f32) (r : Fin 512) (k : Fin 1024) :
    k0_pay16 D M (ix4 0 0 r k) = k0_pay14 D M (ix2 r k) := by
  unfold k0_pay16
  rw [shapeCast_apply _ _ (ix4 0 0 r k) (ix2 r k) (by
      rewrite [Shape.rowMajor_val_two, Shape.rowMajor_val_four]
      show r.val * 1024 + k.val = ((0 * 1 + 0) * 512 + r.val) * 1024 + k.val
      omega)]

/-! ### A whole block at real inputs -/

/-- The block's inputs are the real rows `V` (first half), `W` (second half) and the doubled codebook with its squared lengths. -/
structure Reads (cb : FVec Ideal S1024x256 .f32) (sq : FVec Ideal S1x1024 .f32) (z : FVec Ideal S2x1x256x512 .f32)
    (V W : Fin 512 → Row) (C : Book) : Prop where
  code : ∀ k d, cb (ix2 k d) = ((2 * C k d : ℝ) : EReal)
  size : ∀ k, sq (ix2 0 k) = ((∑ d, C k d * C k d : ℝ) : EReal)
  left : ∀ r d, z (ix4 0 0 d r) = ((V r d : ℝ) : EReal)
  right : ∀ r d, z (ix4 1 0 d r) = ((W r d : ℝ) : EReal)

variable {cb : FVec Ideal S1024x256 .f32} {sq : FVec Ideal S1x1024 .f32} {z : FVec Ideal S2x1x256x512 .f32}

theorem pay2_eq (cb : FVec Ideal S1024x256 .f32) : k0_pay2 cb = cb := funext fun i => shapeCast_apply _ _ i i rfl
theorem pay3_eq (sq : FVec Ideal S1x1024 .f32) : k0_pay3 sq = sq := funext fun i => shapeCast_apply _ _ i i rfl

theorem pay6_eq : k0_pay6 cb sq z = distOf (k0_pay5 z) (k0_pay2 cb) (k0_pay3 sq) := rfl

theorem pay18_eq (v1 : FVec Ideal S1024x256 .f32) (v3 : FVec Ideal S1x1024 .f32) (v5 : FVec Ideal S2x1x256x512 .f32) :
    k0_pay18 v1 v3 v5 = distOf (k0_pay17 v5) v1 v3 := rfl

theorem pay7_eq : k0_pay7 cb sq z = minOf (k0_pay6 cb sq z) := rfl

theorem pay19_eq (v1 : FVec Ideal S1024x256 .f32) (v3 : FVec Ideal S1x1024 .f32) (v5 : FVec Ideal S2x1x256x512 .f32) :
    k0_pay19 v1 v3 v5 = minOf (k0_pay18 v1 v3 v5) := rfl

theorem pay21_eq : k0_pay21 (F := Ideal) = numOf := rfl

theorem pay22_eq (v1 : FVec Ideal S1024x256 .f32) (v3 : FVec Ideal S1x1024 .f32) (v5 : FVec Ideal S2x1x256x512 .f32) :
    k0_pay22 v1 v3 v5 = maskOf (k0_pay18 v1 v3 v5) (k0_pay19 v1 v3 v5) := rfl

theorem pay23_eq (v1 : FVec Ideal S1024x256 .f32) (u : FVec Ideal S512x256 .f32) (K : FVec Ideal S512x1024 .f32) :
    k0_pay23 v1 u numOf K = k0_pay10 (moveOf u v1 K) := rfl

theorem pay9_eq : k0_pay9 cb sq z = moveOf (k0_pay5 z) (k0_pay2 cb) (maskOf (k0_pay6 cb sq z) (k0_pay7 cb sq z)) := rfl

theorem pay28_eq (D : FVec Ideal S512x1024 .f32) (M : FVec Ideal S512x1 .f32) : k0_pay28 D M = k0_pay16 D M := rfl

theorem Reads.dist1 (h : Reads cb sq z V W C) (r : Fin 512) (k : Fin 1024) :
    k0_pay6 (F := Ideal) cb sq z (ix2 r k) = ((VQ.dist (V r) C k : ℝ) : EReal) := by
  rw [pay6_eq, pay2_eq, pay3_eq]
  exact dist_of (fun r d => (rows_fst z r d).trans (h.left r d)) h.code h.size r k

theorem Reads.near1 (h : Reads cb sq z V W C) (r : Fin 512) : k0_pay7 (F := Ideal) cb sq z (ix2 r 0) = ((near (V r) C : ℝ) : EReal) :=
  (congrFun pay7_eq _).trans (min_of h.dist1 r)

theorem Reads.dist2 (h : Reads cb sq z V W C) (r : Fin 512) (k : Fin 1024) :
    k0_pay18 (F := Ideal) (k0_pay2 cb) (k0_pay3 sq) (k0_pay4 z) (ix2 r k) = ((VQ.dist (W r) C k : ℝ) : EReal) := by
  rw [pay18_eq, pay2_eq, pay3_eq]
  exact dist_of (fun r d => (rows_snd z r d).trans (h.right r d)) h.code h.size r k

theorem Reads.near2 (h : Reads cb sq z V W C) (r : Fin 512) :
    k0_pay19 (F := Ideal) (k0_pay2 cb) (k0_pay3 sq) (k0_pay4 z) (ix2 r 0) = ((near (W r) C : ℝ) : EReal) :=
  (congrFun (pay19_eq _ _ _) _).trans (min_of h.dist2 r)

theorem Reads.prob1 (h : Reads cb sq z V W C) (r : Fin 512) (k : Fin 1024) :
    k0_pay16 (F := Ideal) (k0_pay6 cb sq z) (k0_pay7 cb sq z) (ix4 0 0 r k) = ((prob (V r) C k : ℝ) : EReal) :=
  (prob_block _ _ r k).trans (prob_of h.dist1 h.near1 r k)

theorem Reads.prob2 (h : Reads cb sq z V W C) (r : Fin 512) (k : Fin 1024) :
    k0_pay28 (F := Ideal) (k0_pay18 (k0_pay2 cb) (k0_pay3 sq) (k0_pay4 z)) (k0_pay19 (k0_pay2 cb) (k0_pay3 sq) (k0_pay4 z)) (ix4 0 0 r k)
      = ((prob (W r) C k : ℝ) : EReal) :=
  (congrFun (pay28_eq _ _) _).trans <| (prob_block _ _ r k).trans (prob_of h.dist2 h.near2 r k)

theorem Reads.moved1 (h : Reads cb sq z V W C) (d : Fin 256) (r : Fin 512) :
    k0_pay10 (F := Ideal) (k0_pay9 cb sq z) (ix4 0 0 d r) = ((moved (V r) C d : ℝ) : EReal) := by
  rw [move_block]
  rw [pay9_eq, pay2_eq]
  exact move_of (fun r d => (rows_fst z r d).trans (h.left r d)) h.code (mask_of h.dist1 h.near1) r d

theorem Reads.moved2 (h : Reads cb sq z V W C) (d : Fin 256) (r : Fin 512) :
    k0_pay23 (F := Ideal) (k0_pay2 cb) (k0_pay17 (k0_pay4 z)) k0_pay21 (k0_pay22 (k0_pay2 cb) (k0_pay3 sq) (k0_pay4 z)) (ix4 0 0 d r)
      = ((moved (W r) C d : ℝ) : EReal) := by
  rw [pay21_eq, pay22_eq, pay23_eq, move_block]
  have hm := mask_of h.dist2 h.near2
  rw [pay2_eq] at hm ⊢
  exact move_of (fun r d => (rows_snd z r d).trans (h.right r d)) h.code hm r d

/-- The total of a column, as the kernel takes it. -/
def colOf (M : FVec Ideal S512x1 .f32) : Ideal .f32 :=
  extractAt ![0, 0, 0] (shapeCast S1x1x1 (multiReduction .add [1, 2] S1
    (shapeCast S1x512x1 M shapeCasts_S512x1_S1x512x1) 0x00000000#32 reduces_S1x512x1_S1 (.inl rfl) rfl)
    shapeCasts_S1_S1x1x1) inpos_S1x1x1_p0_0_0

theorem col_of (hM : ∀ r, M (ix2 r 0) = ((near (V r) C : ℝ) : EReal)) : colOf M = ((∑ r, near (V r) C : ℝ) : EReal) :=
  totalCol M (fun r => near (V r) C) hM

theorem pay8_eq : k0_pay8 cb sq z = Scalar.addf (Scalar.ofBits .f32 0x00000000#32) (colOf (k0_pay7 cb sq z)) := rfl

theorem pay20_eq (v1 : FVec Ideal S1024x256 .f32) (v3 : FVec Ideal S1x1024 .f32) (v5 : FVec Ideal S2x1x256x512 .f32) (a : Ideal .f32) :
    k0_pay20 v1 v3 v5 a = Scalar.addf a (colOf (k0_pay19 v1 v3 v5)) := rfl

theorem add_pair (a b : ℝ) : Scalar.addf (F := Ideal) (φ := .f32) (Scalar.addf (Scalar.ofBits .f32 0x00000000#32) ((a : ℝ) : EReal)) ((b : ℝ) : EReal)
    = ((a + b : ℝ) : EReal) := by
  show (Ideal.ofBits .f32 0x00000000#32 + _) + _ = _
  rw [lit_zero, ← EReal.coe_add, ← EReal.coe_add, zero_add]

theorem Reads.lost (h : Reads cb sq z V W C) :
    k0_pay20 (F := Ideal) (k0_pay2 cb) (k0_pay3 sq) (k0_pay4 z) (k0_pay8 cb sq z)
      = (((∑ r, near (V r) C) + ∑ r, near (W r) C : ℝ) : EReal) := by
  rw [pay20_eq, pay8_eq, col_of h.near1, col_of h.near2]
  exact add_pair _ _

/-- What a block adds up: lane 0 the least distances, lane 1 the divergences, lane 2 the entropies. -/
theorem Reads.sums (h : Reads cb sq z V W C) (l : Fin 128) :
    k0_pay1 (F := Ideal) (k0_pay20 (k0_pay2 cb) (k0_pay3 sq) (k0_pay4 z) (k0_pay8 cb sq z))
      (k0_pay29 (k0_pay14 (k0_pay6 cb sq z) (k0_pay7 cb sq z)) (k0_pay15 (k0_pay6 cb sq z) (k0_pay7 cb sq z))
        (k0_pay18 (k0_pay2 cb) (k0_pay3 sq) (k0_pay4 z)) (k0_pay19 (k0_pay2 cb) (k0_pay3 sq) (k0_pay4 z)))
      (k0_pay30 (k0_pay14 (k0_pay6 cb sq z) (k0_pay7 cb sq z)) (k0_pay15 (k0_pay6 cb sq z) (k0_pay7 cb sq z))
        (k0_pay18 (k0_pay2 cb) (k0_pay3 sq) (k0_pay4 z)) (k0_pay19 (k0_pay2 cb) (k0_pay3 sq) (k0_pay4 z))) (ix4 0 0 0 l)
      = ((if l.val = 0 then (∑ r, near (V r) C) + ∑ r, near (W r) C else if l.val = 1 then 1 / 2 * ∑ r, ∑ k, jsk (V r) (W r) C k
          else if l.val = 2 then -(1 / 2) * ∑ r, ∑ k, went (V r) (W r) C k else 0 : ℝ) : EReal) := by
  have hp := prob_of h.dist1 h.near1
  have hq := logp_of h.dist1 h.near1
  rw [h.lost, js_of hp hq h.dist2 h.near2]
  exact lane_of (fun r k => went_of hp hq h.dist2 h.near2 r k) l

end Cert.KernelIdeal.Block

end
-- ==== Proof.Data.lean ====
/-
  The real numbers the argument arrays hold: the rows of the input and the codebook.
-/
module

public import proofs.«01_k».proof.Proof.Model
public import Idealize.ShloMosaic.Lib.ValueIdxCore

@[expose] public section

noncomputable section

namespace Cert.VQ

open Idealize.ShloMosaic Idealize.ShloMosaic.ValueIdx

/-- Every entry of both arrays is a real number. -/
structure Finite (x0 : (⟨4, ![8, 256, 32, 32]⟩ : Shape).Idx → EReal) (x3 : (⟨2, ![1024, 256]⟩ : Shape).Idx → EReal) : Prop where
  input : ∀ i, x0 i = ((x0 i).toReal : EReal)
  code : ∀ i, x3 i = ((x3 i).toReal : EReal)

/-- Row `n` of the input: image `n / 1024`, pixel `n % 1024`, the channels along the row. -/
def rowsOf (x0 : (⟨4, ![8, 256, 32, 32]⟩ : Shape).Idx → EReal) (n : Fin 8192) : Row := fun d =>
  (x0 (ix4 ⟨n.val / 1024, by omega⟩ d ⟨n.val % 1024 / 32, by omega⟩ ⟨n.val % 32, by omega⟩)).toReal

/-- The codebook. -/
def bookOf (x3 : (⟨2, ![1024, 256]⟩ : Shape).Idx → EReal) : Book := fun k d => (x3 (ix2 k d)).toReal

/-- Row `s` of image `b` within half `p`: the number of a row from the kernel's coordinates. -/
def rowNo (p : Fin 2) (b : Fin 4) (s : Fin 1024) : Fin 8192 := ⟨p.val * 4096 + b.val * 1024 + s.val, by omega⟩

/-- A row number from the kernel's coordinates, read back through the image's shape. -/
theorem rowsOf_rowNo {x0 : (⟨4, ![8, 256, 32, 32]⟩ : Shape).Idx → EReal} (p : Fin 2) (b : Fin 4) (s : Fin 1024) (d : Fin 256) :
    rowsOf x0 (rowNo p b s) d = (x0 (ix4 ⟨p.val * 4 + b.val, by omega⟩ d ⟨s.val / 32, by omega⟩ ⟨s.val % 32, by omega⟩)).toReal := by
  have hp := p.isLt
  have hb := b.isLt
  have hs := s.isLt
  unfold rowsOf rowNo
  refine congrArg (fun i => (x0 i).toReal) (congr (congr (congr (congrArg _ (Fin.ext ?_)) rfl) (Fin.ext ?_)) (Fin.ext ?_))
  · show (p.val * 4096 + b.val * 1024 + s.val) / 1024 = p.val * 4 + b.val
    omega
  · show (p.val * 4096 + b.val * 1024 + s.val) % 1024 / 32 = s.val / 32
    omega
  · show (p.val * 4096 + b.val * 1024 + s.val) % 32 = s.val % 32
    omega

end Cert.VQ

end
-- ==== Proof.KReads.lean ====
/-
  What the kernel reads at each grid point: the block's inputs are the model's rows and codebook.
-/
module

public import proofs.«01_k».proof.Proof.Gen.KernelIdeal.Frame
public import proofs.«01_k».proof.Proof.KBlock
public import proofs.«01_k».proof.Proof.Data
public import Idealize.ShloMosaic.Lib.Pipeline.ValueKit

@[expose] public section

set_option maxRecDepth 16384

noncomputable section

namespace Cert.KernelIdeal.Block

open Cert.KernelIdeal Cert.KernelIdeal.Gen Idealize.ShloMosaic.TcCoe Idealize.ShloMosaic.ValueIdx Cert.VQ Idealize.SL.Sem
open Idealize.ShloMosaic hiding ix1 ix2 ix3 ix4 ix5

variable (m : (ℓ : Loc nD τ sig) → Buf (Elt Ideal) ℓ)

theorem idx : ∀ t : Fin grid0.N, win0_0.index t = ![0, t.val / 2, 0, t.val % 2] ∧ win0_1.index t = ![0, 0] ∧ win0_2.index t = ![0, 0]
    ∧ win0_3.index t = ![0, t.val / 2, t.val % 2, 0] ∧ win0_4.index t = ![0, t.val / 2, 0, t.val % 2]
    ∧ win0_5.index t = ![t.val / 2, t.val % 2, 0, 0] := by
  decide +kernel

/-- The input array. -/
abbrev inZ (c : Dev nD) : FVec Ideal S8x256x32x32 .f32 := m ((c : Thread nD τ).loc main_arg0)
/-- The codebook. -/
abbrev inC (c : Dev nD) : FVec Ideal S1024x256 .f32 := m ((c : Thread nD τ).loc main_arg3)

theorem V_v4 (c : Dev nD) : V m c main_v4 = (addf (inC m c) (inC m c) : FVec Ideal S1024x256 .f32) := by
  show StableHlo.after hostOps0 _ _ = _
  after_results

theorem V_v0 (c : Dev nD) : V m c main_v0 = (shapeCast S2x4x256x1024 (inZ m c) shapeCasts_S8x256x32x32_S2x4x256x1024 : FVec Ideal S2x4x256x1024 .f32) := by
  show StableHlo.after hostOps0 _ _ = _
  after_results
  rfl

theorem V_v3 (c : Dev nD) : V m c main_v3 = (shapeCast S1x1024 (Host.reduceAdd (mulf (inC m c) (inC m c)) (constant S_ .f32 0x00000000#32)
    reducesTo_S1024x256_S1024_d1 h_S_) shapeCasts_S1024_S1x1024 : FVec Ideal S1x1024 .f32) := by
  show StableHlo.after hostOps0 _ _ = _
  after_results
  rfl

theorem read_code (c : Dev nD) (t : Fin cfg0.N) (k : Fin 1024) (d : Fin 256) :
    iblk m c 1 t (ix2 k d) = (addf (inC m c) (inC m c) : FVec Ideal S1024x256 .f32) (ix2 k d) := by
  rw [← V_v4]
  blk_ext [iblk, idx t]

theorem read_size (c : Dev nD) (t : Fin cfg0.N) (k : Fin 1024) :
    iblk m c 2 t (ix2 0 k) = (V m c main_v3 : FVec Ideal S1x1024 .f32) (ix2 0 k) := by
  blk_ext [iblk, idx t]

theorem read_rows (c : Dev nD) (t : Fin cfg0.N) (p : Fin 2) (d : Fin 256) (r : Fin 512) :
    iblk m c 0 t (ix4 p 0 d r) = (V m c main_v0 : FVec Ideal S2x4x256x1024 .f32) (ix4 p ⟨t.val / 2, by have h : t.val < 8 := t.isLt; omega⟩ d ⟨t.val % 2 * 512 + r.val, by omega⟩) := by
  blk_ext [iblk, idx t]

/-- The image the point works on, and the number of the block's row within it. -/
def img (t : Fin cfg0.N) : Fin 4 := ⟨t.val / 2, by have h : t.val < 8 := t.isLt; omega⟩
def pix (t : Fin cfg0.N) (r : Fin 512) : Fin 1024 := ⟨t.val % 2 * 512 + r.val, by omega⟩

/-- The rows of half `p` of the block. -/
def rows (c : Dev nD) (t : Fin cfg0.N) (p : Fin 2) (r : Fin 512) : Row := rowsOf (inZ m c) (rowNo p (img t) (pix t r))

theorem half_apply (x : FVec Ideal S8x256x32x32 .f32) (p : Fin 2) (b : Fin 4) (d : Fin 256) (s : Fin 1024) :
    shapeCast S2x4x256x1024 x shapeCasts_S8x256x32x32_S2x4x256x1024 (ix4 p b d s)
      = x (ix4 ⟨p.val * 4 + b.val, by omega⟩ d ⟨s.val / 32, by omega⟩ ⟨s.val % 32, by omega⟩) :=
  shapeCast_apply x _ _ _ (by
    rewrite [Shape.rowMajor_val_four, Shape.rowMajor_val_four]
    show (((p.val * 4 + b.val) * 256 + d.val) * 32 + s.val / 32) * 32 + s.val % 32 = ((p.val * 4 + b.val) * 256 + d.val) * 1024 + s.val
    omega)

theorem size_apply (x : FVec Ideal S1024x256 .f32) (C : Book) (hx : ∀ k d, x (ix2 k d) = ((C k d : ℝ) : EReal)) (k : Fin 1024) :
    shapeCast S1x1024 (Host.reduceAdd (mulf x x) (constant S_ .f32 0x00000000#32) reducesTo_S1024x256_S1024_d1 h_S_)
      shapeCasts_S1024_S1x1024 (ix2 0 k) = ((∑ d, C k d * C k d : ℝ) : EReal) := by
  refine (shapeCast_apply _ _ (ix2 0 k) (ix1 k) (by
    rewrite [Shape.rowMajor_val_one, Shape.rowMajor_val_two]
    show k.val = 0 * 1024 + k.val
    omega)).trans ?_
  have hs : ∀ d, (mulf x x : FVec Ideal S1024x256 .f32) (ix2 k d) = ((C k d * C k d : ℝ) : EReal) := fun d => by
    rw [mulf_apply, hx, ← EReal.coe_mul]
  revert hs
  generalize (mulf x x : FVec Ideal S1024x256 .f32) = y
  intro hs
  simp only [Host.reduceAdd, Ideal.hostReduceAdd_def]
  rw [Ideal.hostReduceAdd_single reducesTo_S1024x256_S1024_d1 (by decide)]
  show Ideal.ofBits .f32 0x00000000#32 + _ = _
  rw [lit_zero, ← coe_sum, EReal.coe_zero, zero_add]
  refine Finset.sum_congr rfl fun d _ => (congrArg y (funext fun a => Fin.ext ?_)).trans (hs d)
  match a with
  | ⟨0, _⟩ => rfl
  | ⟨1, _⟩ => rfl

theorem reads {c : Dev nD} (h : Finite (inZ m c) (inC m c)) (t : Fin cfg0.N) :
    Reads (iblk m c 1 t) (iblk m c 2 t) (iblk m c 0 t) (rows m c t 0) (rows m c t 1) (bookOf (inC m c)) where
  code k d := by
    rw [read_code]
    show inC m c (ix2 k d) + inC m c (ix2 k d) = _
    rw [h.code (ix2 k d), ← EReal.coe_add, two_mul]
    rfl
  size k := by
    rw [read_size, V_v3]
    exact size_apply (inC m c) _ (fun k d => h.code _) k
  left r d := by
    rw [read_rows, V_v0, half_apply]
    refine (h.input _).trans ?_
    rw [rows, rowsOf_rowNo]
    rfl
  right r d := by
    rw [read_rows, V_v0, half_apply]
    refine (h.input _).trans ?_
    rw [rows, rowsOf_rowNo]
    rfl

end Cert.KernelIdeal.Block

end
-- ==== Proof.KArrays.lean ====
/-
  The arrays the region leaves: at every index the model's number.
-/
module

public import proofs.«01_k».proof.Proof.KReads

@[expose] public section

set_option maxRecDepth 16384

noncomputable section

namespace Cert.KernelIdeal.Block

open Cert.KernelIdeal Cert.KernelIdeal.Gen Idealize.ShloMosaic.TcCoe Idealize.ShloMosaic.ValueIdx Cert.VQ Idealize.SL.Sem
open Idealize.ShloMosaic hiding ix1 ix2 ix3 ix4 ix5

section Out

variable {cb : FVec Ideal S1024x256 .f32} {sq : FVec Ideal S1x1024 .f32} {z : FVec Ideal S2x1x256x512 .f32} {R : Fin 2 → Fin 512 → Row} {C : Book}

theorem ld_code : View.ld (Val := Elt Ideal) (e' := .f32) cb r0_0 = cb :=
  View.ld_unit_zero (funext fun a => by fin_cases a <;> rfl) _ _
theorem ld_size : View.ld (Val := Elt Ideal) (e' := .f32) sq r0_1 = sq :=
  View.ld_unit_zero (funext fun a => by fin_cases a <;> rfl) _ _
theorem ld_rows : View.ld (Val := Elt Ideal) (e' := .f32) z r0_2 = z :=
  View.ld_unit_zero (funext fun a => by fin_cases a <;> rfl) _ _

theorem pay31_eq : k0_pay31 (F := Ideal) z cb sq = k0_pay2 cb := by rw [k0_pay31, ld_code]
theorem pay32_eq : k0_pay32 (F := Ideal) z cb sq = k0_pay3 sq := by rw [k0_pay32, ld_size]
theorem pay33_eq : k0_pay33 (F := Ideal) z cb sq = k0_pay4 z := by rw [k0_pay33, ld_rows]
theorem pay34_eq : k0_pay34 (F := Ideal) z cb sq = k0_pay6 cb sq z := by rw [k0_pay34, ld_code, ld_size, ld_rows]
theorem pay35_eq : k0_pay35 (F := Ideal) z cb sq = k0_pay7 cb sq z := by rw [k0_pay35, ld_code, ld_size, ld_rows]
theorem pay36_eq : k0_pay36 (F := Ideal) z cb sq = k0_pay14 (k0_pay6 cb sq z) (k0_pay7 cb sq z) := by rw [k0_pay36, pay34_eq, pay35_eq]
theorem pay37_eq : k0_pay37 (F := Ideal) z cb sq = k0_pay15 (k0_pay6 cb sq z) (k0_pay7 cb sq z) := by rw [k0_pay37, pay34_eq, pay35_eq]
theorem pay38_eq : k0_pay38 (F := Ideal) z cb sq = k0_pay18 (k0_pay2 cb) (k0_pay3 sq) (k0_pay4 z) := by
  rw [k0_pay38, pay31_eq, pay32_eq, pay33_eq]
theorem pay39_eq : k0_pay39 (F := Ideal) z cb sq = k0_pay19 (k0_pay2 cb) (k0_pay3 sq) (k0_pay4 z) := by
  rw [k0_pay39, pay31_eq, pay32_eq, pay33_eq]

theorem Reads.out_prob (h : Reads cb sq z (R 0) (R 1) C) (p : Fin 2) (r : Fin 512) (k : Fin 1024) :
    out0_3 (F := Ideal) z cb sq (ix4 p 0 r k) = ((prob (R p r) C k : ℝ) : EReal) := by
  unfold out0_3
  rw [pay34_eq, pay35_eq, pay38_eq, pay39_eq]
  canon_tiles x
  · obtain ⟨a, b, r', k', rfl⟩ : ∃ (a b : Fin 1) (r' : Fin 512) (k' : Fin 1024), x = ix4 a b r' k' := ⟨x 0, x 1, x 2, x 3, ValueIdx.eq_ix4 x⟩
    obtain rfl : a = 0 := Subsingleton.elim _ _
    obtain rfl : b = 0 := Subsingleton.elim _ _
    obtain rfl : p = 1 := Fin.ext h0
    obtain rfl : r = r' := Fin.ext h2
    obtain rfl : k = k' := Fin.ext h3
    exact h.prob2 r k
  · obtain ⟨a, b, r', k', rfl⟩ : ∃ (a b : Fin 1) (r' : Fin 512) (k' : Fin 1024), x = ix4 a b r' k' := ⟨x 0, x 1, x 2, x 3, ValueIdx.eq_ix4 x⟩
    obtain rfl : a = 0 := Subsingleton.elim _ _
    obtain rfl : b = 0 := Subsingleton.elim _ _
    obtain rfl : p = 0 := Fin.ext h0
    obtain rfl : r = r' := Fin.ext h2
    obtain rfl : k = k' := Fin.ext h3
    exact h.prob1 r k

theorem Reads.out_moved (h : Reads cb sq z (R 0) (R 1) C) (p : Fin 2) (d : Fin 256) (r : Fin 512) :
    out0_4 (F := Ideal) z cb sq (ix4 p 0 d r) = ((moved (R p r) C d : ℝ) : EReal) := by
  unfold out0_4
  rw [pay31_eq, pay32_eq, pay33_eq, ld_code, ld_size, ld_rows]
  canon_tiles x
  · obtain ⟨a, b, d', r', rfl⟩ : ∃ (a b : Fin 1) (d' : Fin 256) (r' : Fin 512), x = ix4 a b d' r' := ⟨x 0, x 1, x 2, x 3, ValueIdx.eq_ix4 x⟩
    obtain rfl : a = 0 := Subsingleton.elim _ _
    obtain rfl : b = 0 := Subsingleton.elim _ _
    obtain rfl : p = 1 := Fin.ext h0
    obtain rfl : d = d' := Fin.ext h2
    obtain rfl : r = r' := Fin.ext h3
    exact h.moved2 d r
  · obtain ⟨a, b, d', r', rfl⟩ : ∃ (a b : Fin 1) (d' : Fin 256) (r' : Fin 512), x = ix4 a b d' r' := ⟨x 0, x 1, x 2, x 3, ValueIdx.eq_ix4 x⟩
    obtain rfl : a = 0 := Subsingleton.elim _ _
    obtain rfl : b = 0 := Subsingleton.elim _ _
    obtain rfl : p = 0 := Fin.ext h0
    obtain rfl : d = d' := Fin.ext h2
    obtain rfl : r = r' := Fin.ext h3
    exact h.moved1 d r

/-- The sums of one block of rows, by lane. -/
def lane (V W : Fin 512 → Row) (C : Book) (l : ℕ) : ℝ :=
  if l = 0 then (∑ r, near (V r) C) + ∑ r, near (W r) C else if l = 1 then 1 / 2 * ∑ r, ∑ k, jsk (V r) (W r) C k
    else if l = 2 then -(1 / 2) * ∑ r, ∑ k, went (V r) (W r) C k else 0

theorem Reads.out_sums (h : Reads cb sq z (R 0) (R 1) C) (l : Fin 128) :
    out0_5 (F := Ideal) z cb sq (ix4 0 0 0 l) = ((lane (R 0) (R 1) C l.val : ℝ) : EReal) := by
  unfold out0_5
  rw [pay31_eq, pay32_eq, pay33_eq, pay36_eq, pay37_eq, pay38_eq, pay39_eq, ld_code, ld_size, ld_rows]
  canon_tiles x
  obtain ⟨a, b, b', l', rfl⟩ : ∃ (a b b' : Fin 1) (l' : Fin 128), x = ix4 a b b' l' := ⟨x 0, x 1, x 2, x 3, ValueIdx.eq_ix4 x⟩
  obtain rfl : a = 0 := Subsingleton.elim _ _
  obtain rfl : b = 0 := Subsingleton.elim _ _
  obtain rfl : b' = 0 := Subsingleton.elim _ _
  obtain rfl : l = l' := Fin.ext h3
  exact h.sums l

end Out

variable (m : (ℓ : Loc nD τ sig) → Buf (Elt Ideal) ℓ)

/-- The probabilities the kernel writes. -/
def arrProb (c : Dev nD) : FVec Ideal S2x4x1024x1024 .f32 := fun i =>
  ((prob (rowsOf (inZ m c) (rowNo (i 0) (i 1) (i 2))) (bookOf (inC m c)) (i 3) : ℝ) : EReal)

/-- The moved rows the kernel writes. -/
def arrMoved (c : Dev nD) : FVec Ideal S2x4x256x1024 .f32 := fun i =>
  ((moved (rowsOf (inZ m c) (rowNo (i 0) (i 1) (i 3))) (bookOf (inC m c)) (i 2) : ℝ) : EReal)

/-- Row `r` of the half block `b`. -/
def halfRow (b : Fin 2) (r : Fin 512) : Fin 1024 := ⟨b.val * 512 + r.val, by omega⟩

/-- The blocks' sums the kernel writes. -/
def arrSums (c : Dev nD) : FVec Ideal S4x2x1x128 .f32 := fun i =>
  ((lane (fun r => rowsOf (inZ m c) (rowNo 0 (i 0) (halfRow (i 1) r))) (fun r => rowsOf (inZ m c) (rowNo 1 (i 0) (halfRow (i 1) r)))
    (bookOf (inC m c)) (i 3).val : ℝ) : EReal)

theorem arr_prob {c : Dev nD} (h : Finite (inZ m c) (inC m c)) : (dats m 0 c).arrAt 3 cfg0.N = arrProb m c := by
  refine (dats m 0 c).arrAt_eq_of_covers 3 _ (by decide +kernel) fun t hf y => ?_
  blk_simp
  rw [after0_3]
  have e := (idx t).2.2.2.1
  obtain ⟨p, o, r, k, rfl⟩ : ∃ (p : Fin 2) (o : Fin 1) (r : Fin 512) (k : Fin 1024), y = ix4 p o r k := ⟨y 0, y 1, y 2, y 3, ValueIdx.eq_ix4 y⟩
  obtain rfl : o = 0 := Subsingleton.elim _ _
  rw [(reads m h t).out_prob (R := rows m c t) p r k]
  unfold arrProb rows
  refine congrArg _ (congr (congrArg (fun n => prob (rowsOf (inZ m c) n) (bookOf (inC m c))) (congr (congr (congrArg _ (Fin.ext ?_)) (Fin.ext ?_)) (Fin.ext ?_))) (Fin.ext ?_))
  all_goals blk_simp [e]
  all_goals rfl

theorem arr_moved {c : Dev nD} (h : Finite (inZ m c) (inC m c)) : (dats m 0 c).arrAt 4 cfg0.N = arrMoved m c := by
  refine (dats m 0 c).arrAt_eq_of_covers 4 _ (by decide +kernel) fun t hf y => ?_
  blk_simp
  rw [after0_4]
  have e := (idx t).2.2.2.2.1
  obtain ⟨p, o, d, r, rfl⟩ : ∃ (p : Fin 2) (o : Fin 1) (d : Fin 256) (r : Fin 512), y = ix4 p o d r := ⟨y 0, y 1, y 2, y 3, ValueIdx.eq_ix4 y⟩
  obtain rfl : o = 0 := Subsingleton.elim _ _
  rw [(reads m h t).out_moved (R := rows m c t) p d r]
  unfold arrMoved rows
  refine congrArg _ (congr (congrArg (fun n => moved (rowsOf (inZ m c) n) (bookOf (inC m c))) (congr (congr (congrArg _ (Fin.ext ?_)) (Fin.ext ?_)) (Fin.ext ?_))) (Fin.ext ?_))
  all_goals blk_simp [e]
  all_goals rfl

theorem arr_sums {c : Dev nD} (h : Finite (inZ m c) (inC m c)) : (dats m 0 c).arrAt 5 cfg0.N = arrSums m c := by
  refine (dats m 0 c).arrAt_eq_of_covers 5 _ (by decide +kernel) fun t hf y => ?_
  blk_simp
  rw [after0_5]
  have e := (idx t).2.2.2.2.2
  obtain ⟨a, b, o, l, rfl⟩ : ∃ (a b o : Fin 1) (l : Fin 128), y = ix4 a b o l := ⟨y 0, y 1, y 2, y 3, ValueIdx.eq_ix4 y⟩
  obtain rfl : a = 0 := Subsingleton.elim _ _
  obtain rfl : b = 0 := Subsingleton.elim _ _
  obtain rfl : o = 0 := Subsingleton.elim _ _
  rw [(reads m h t).out_sums (R := rows m c t) l]
  unfold arrSums
  have key : ∀ (q : Fin 4) (b : Fin 2) (l' : ℕ), q.val = t.val / 2 → b.val = t.val % 2 → l' = l.val →
      lane (rows m c t 0) (rows m c t 1) (bookOf (inC m c)) l.val
        = lane (fun r => rowsOf (inZ m c) (rowNo 0 q (halfRow b r))) (fun r => rowsOf (inZ m c) (rowNo 1 q (halfRow b r))) (bookOf (inC m c)) l' := by
    intro q b l' hq hb hl
    obtain rfl : q = img t := Fin.ext hq
    subst hl
    have hr : ∀ r, halfRow b r = pix t r := fun r => Fin.ext (by show b.val * 512 + r.val = t.val % 2 * 512 + r.val; rw [hb])
    simp only [hr]
    rfl
  refine congrArg _ (key _ _ _ ?_ ?_ ?_)
  all_goals blk_simp [e]
  all_goals rfl

end Cert.KernelIdeal.Block

end
-- ==== Proof.KRun.lean ====
/-
  The kernel's run: each result as the host's last operations make it of the arrays the region leaves.
-/
module

public import proofs.«01_k».proof.Proof.Gen.KernelIdeal.Frame
public import proofs.«01_k».proof.Proof.KReads
public import Idealize.ShloMosaic.Lib.Claim

@[expose] public section

set_option maxRecDepth 16384

noncomputable section

namespace Cert.KernelIdeal.Block

open Cert.KernelIdeal Cert.KernelIdeal.Gen Idealize.ShloMosaic.TcCoe Idealize.SL.Sem
open Idealize.ShloMosaic

/-- The probabilities as one matrix. -/
def tailProb (a : FVec Ideal S2x4x1024x1024 .f32) : FVec Ideal S8192x1024 .f32 := shapeCast S8192x1024 a shapeCasts_S2x4x1024x1024_S8192x1024

/-- The moved rows in the input's shape. -/
def tailMoved (a : FVec Ideal S2x4x256x1024 .f32) : FVec Ideal S8x256x32x32 .f32 := shapeCast S8x256x32x32 a shapeCasts_S2x4x256x1024_S8x256x32x32

/-- The blocks' sums added up, lane by lane. -/
def tailSum (a : FVec Ideal S4x2x1x128 .f32) : FVec Ideal S128 .f32 :=
  Host.reduceAdd a (constant S_ .f32 0x00000000#32) reducesTo_S4x2x1x128_S128_d0_1_2 h_S_

/-- The mean of the least squared distances. -/
def tailMean (a : FVec Ideal S4x2x1x128 .f32) : FVec Ideal S_ .f32 :=
  Host.divf (shapeCast S_ (extractStridedSlice S1 ![0] (tailSum a) slices_S128_S1_0) shapeCasts_S1_S_) (constant S_ .f32 0x4A000000#32)

def tailLoss (a : FVec Ideal S4x2x1x128 .f32) : FVec Ideal S_ .f32 :=
  addf (tailMean a) (mulf (constant S_ .f32 0x3E800000#32) (tailMean a))

def tailJsd (a : FVec Ideal S4x2x1x128 .f32) : FVec Ideal S_ .f32 :=
  Host.divf (shapeCast S_ (extractStridedSlice S1 ![1] (tailSum a) slices_S128_S1_1) shapeCasts_S1_S_) (constant S_ .f32 0x45800000#32)

def tailEnt (a : FVec Ideal S4x2x1x128 .f32) : FVec Ideal S_ .f32 :=
  Host.divf (shapeCast S_ (extractStridedSlice S1 ![2] (tailSum a) slices_S128_S1_2) shapeCasts_S1_S_) (constant S_ .f32 0x45800000#32)

variable (m : (ℓ : Loc nD τ sig) → Buf (Elt Ideal) ℓ) (ρ : Dev nD → PrngReg)

/-- The region's arrays are distinct buffers. -/
theorem arr_inj : Function.Injective (Pipeline.arrRef spec0) := by decide

theorem tail_moved (c : Dev nD) : Pipeline.afterTail₀ cfgs (dats m) 0 (V0 m) [hostOps1] c main_v7 = tailMoved ((dats m 0 c).arrAt 4 cfg0.N) := by
  rw [← Pipeline.withArrays_arr spec0 arr_inj c (V0 m c) (fun w => (dats m 0 c).arrAt w cfg0.N) 4]
  show StableHlo.after hostOps1 _ _ = _
  generalize Pipeline.withArrays _ c (V0 m c) _ = V'
  after_results
  rfl

theorem tail_loss (c : Dev nD) : Pipeline.afterTail₀ cfgs (dats m) 0 (V0 m) [hostOps1] c main_v13 = tailLoss ((dats m 0 c).arrAt 5 cfg0.N) := by
  rw [← Pipeline.withArrays_arr spec0 arr_inj c (V0 m c) (fun w => (dats m 0 c).arrAt w cfg0.N) 5]
  show StableHlo.after hostOps1 _ _ = _
  generalize Pipeline.withArrays _ c (V0 m c) _ = V'
  after_results
  rfl

theorem tail_jsd (c : Dev nD) : Pipeline.afterTail₀ cfgs (dats m) 0 (V0 m) [hostOps1] c main_v16 = tailJsd ((dats m 0 c).arrAt 5 cfg0.N) := by
  rw [← Pipeline.withArrays_arr spec0 arr_inj c (V0 m c) (fun w => (dats m 0 c).arrAt w cfg0.N) 5]
  show StableHlo.after hostOps1 _ _ = _
  generalize Pipeline.withArrays _ c (V0 m c) _ = V'
  after_results
  rfl

theorem tail_ent (c : Dev nD) : Pipeline.afterTail₀ cfgs (dats m) 0 (V0 m) [hostOps1] c main_v19 = tailEnt ((dats m 0 c).arrAt 5 cfg0.N) := by
  rw [← Pipeline.withArrays_arr spec0 arr_inj c (V0 m c) (fun w => (dats m 0 c).arrAt w cfg0.N) 5]
  show StableHlo.after hostOps1 _ _ = _
  generalize Pipeline.withArrays _ c (V0 m c) _ = V'
  after_results
  rfl

theorem tail_prob (c : Dev nD) : Pipeline.afterTail₀ cfgs (dats m) 0 (V0 m) [hostOps1] c main_v6 = tailProb ((dats m 0 c).arrAt 3 cfg0.N) := by
  rw [← Pipeline.withArrays_arr spec0 arr_inj c (V0 m c) (fun w => (dats m 0 c).arrAt w cfg0.N) 3]
  show StableHlo.after hostOps1 _ _ = _
  generalize Pipeline.withArrays _ c (V0 m c) _ = V'
  after_results
  rfl

theorem run : θ_run defs (onTc (τ := τ) (main (F := Ideal))) ⟨m, fun _ => 0, ρ⟩ (fun r => ∀ c : Dev nD,
    r.2.mem ((c.tc : Thread nD τ).loc main_v7) = tailMoved ((dats m 0 c).arrAt 4 cfg0.N)
    ∧ r.2.mem ((c.tc : Thread nD τ).loc main_v13) = tailLoss ((dats m 0 c).arrAt 5 cfg0.N)
    ∧ r.2.mem ((c.tc : Thread nD τ).loc main_v16) = tailJsd ((dats m 0 c).arrAt 5 cfg0.N)
    ∧ r.2.mem ((c.tc : Thread nD τ).loc main_v19) = tailEnt ((dats m 0 c).arrAt 5 cfg0.N)
    ∧ r.2.mem ((c.tc : Thread nD τ).loc main_v6) = tailProb ((dats m 0 c).arrAt 3 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  run_from Gen.run_main m ρ
  · exact tail_moved m c
  · exact tail_loss m c
  · exact tail_jsd m c
  · exact tail_ent m c
  · exact tail_prob m c
  · exact W_main_arg0 m (dats m) c
  · exact W_main_arg1 m (dats m) c
  · exact W_main_arg2 m (dats m) c
  · exact W_main_arg3 m (dats m) c

end Cert.KernelIdeal.Block

end
-- ==== Proof.KTail.lean ====
/-
  The kernel's results: what the host's last operations make of the region's arrays, in the model's terms.
-/
module

public import proofs.«01_k».proof.Proof.KArrays
public import proofs.«01_k».proof.Proof.KRun

@[expose] public section

set_option maxRecDepth 16384

noncomputable section

namespace Cert.KernelIdeal.Block

open Cert.KernelIdeal Cert.KernelIdeal.Gen Idealize.ShloMosaic.TcCoe Idealize.ShloMosaic.ValueIdx Cert.VQ Idealize.SL.Sem
open Idealize.ShloMosaic hiding ix1 ix2 ix3 ix4 ix5

section Sums

/-- A position among the 4096 pairs, from image, half and row. -/
def pairNo (q : Fin 4) (b : Fin 2) (r : Fin 512) : Fin 4096 := ⟨q.val * 1024 + (b.val * 512 + r.val), by omega⟩

/-- The positions of the pairs, counted by image, half and row. -/
def pairs : Fin 4 × Fin 2 × Fin 512 ≃ Fin 4096 where
  toFun p := pairNo p.1 p.2.1 p.2.2
  invFun s := (⟨s.val / 1024, by omega⟩, ⟨s.val % 1024 / 512, by omega⟩, ⟨s.val % 512, by omega⟩)
  left_inv p := by
    obtain ⟨q, b, r⟩ := p
    have hq := q.isLt
    have hb := b.isLt
    have hr := r.isLt
    refine Prod.ext (Fin.ext ?_) (Prod.ext (Fin.ext ?_) (Fin.ext ?_))
    · show (q.val * 1024 + (b.val * 512 + r.val)) / 1024 = q.val
      omega
    · show (q.val * 1024 + (b.val * 512 + r.val)) % 1024 / 512 = b.val
      omega
    · show (q.val * 1024 + (b.val * 512 + r.val)) % 512 = r.val
      omega
  right_inv s := Fin.ext (by
    show s.val / 1024 * 1024 + (s.val % 1024 / 512 * 512 + s.val % 512) = s.val
    omega)

theorem sum_pairs (g : Fin 4096 → ℝ) : ∑ q : Fin 4, ∑ b : Fin 2, ∑ r : Fin 512, g (pairNo q b r) = ∑ s, g s := by
  rw [← Fintype.sum_equiv pairs (fun p => g (pairNo p.1 p.2.1 p.2.2)) g fun _ => rfl]
  simp only [Fintype.sum_prod_type]

/-- A sum over all rows, half by half. -/
theorem sum_two (f : Fin 8192 → ℝ) : ∑ n, f n = (∑ s : Fin 4096, f ⟨s.val, by omega⟩) + ∑ s : Fin 4096, f ⟨4096 + s.val, by omega⟩ :=
  Fin.sum_univ_add (a := 4096) (b := 4096) f

variable (Z : Fin 8192 → Row) (C : Book)

theorem row_fst (q : Fin 4) (b : Fin 2) (r : Fin 512) : Z (rowNo 0 q (halfRow b r)) = fst Z (pairNo q b r) :=
  congrArg Z (Fin.ext (by show 0 * 4096 + q.val * 1024 + (b.val * 512 + r.val) = q.val * 1024 + (b.val * 512 + r.val); omega))

theorem row_snd (q : Fin 4) (b : Fin 2) (r : Fin 512) : Z (rowNo 1 q (halfRow b r)) = snd Z (pairNo q b r) :=
  congrArg Z (Fin.ext (by show 1 * 4096 + q.val * 1024 + (b.val * 512 + r.val) = 4096 + (q.val * 1024 + (b.val * 512 + r.val)); omega))

/-- A lane's value summed over all blocks. -/
def lanes (l : ℕ) : ℝ := ∑ q : Fin 4, ∑ b : Fin 2,
  lane (fun r => Z (rowNo 0 q (halfRow b r))) (fun r => Z (rowNo 1 q (halfRow b r))) C l

theorem lanes_near : lanes Z C 0 = ∑ n, near (Z n) C := by
  unfold lanes
  simp only [row_fst, row_snd, lane, if_true, Finset.sum_add_distrib]
  rw [sum_pairs fun s => near (fst Z s) C, sum_pairs fun s => near (snd Z s) C, sum_two]
  rfl

theorem lanes_jsk : lanes Z C 1 = ∑ s, 1 / 2 * ∑ k, jsk (fst Z s) (snd Z s) C k := by
  unfold lanes
  rw [← sum_pairs fun s => 1 / 2 * ∑ k, jsk (fst Z s) (snd Z s) C k]
  simp only [row_fst, row_snd, lane, Finset.mul_sum]
  rfl

theorem lanes_went : lanes Z C 2 = ∑ s, -(1 / 2) * ∑ k, went (fst Z s) (snd Z s) C k := by
  unfold lanes
  rw [← sum_pairs fun s => -(1 / 2) * ∑ k, went (fst Z s) (snd Z s) C k]
  simp only [row_fst, row_snd, lane, Finset.mul_sum]
  rfl

end Sums

/-- The host's sum over the blocks, at one lane. -/
theorem tailSum_apply (a : FVec Ideal S4x2x1x128 .f32) (l : Fin 128) :
    tailSum a (ix1 l) = ∑ q : Fin 4, ∑ b : Fin 2, a (ix4 q b 0 l) := by
  unfold tailSum
  simp only [Host.reduceAdd, Ideal.hostReduceAdd_def]
  unfold Ideal.hostReduceAdd
  rw [show (constant (F := Ideal) S_ .f32 0x00000000#32 _ : EReal) = 0 from lit_zero.trans EReal.coe_zero, zero_add,
    ← Fintype.sum_prod_type' fun (q : Fin 4) (b : Fin 2) => a (ix4 q b 0 l)]
  have hd : ∀ i : S4x2x1x128.Idx, (reducesTo_S4x2x1x128_S128_d0_1_2.drop i 0).val = (i 3).val := fun i =>
    Shape.ReducesTo.drop_apply_val _ i 0
  have back : ∀ i : S4x2x1x128.Idx, reducesTo_S4x2x1x128_S128_d0_1_2.drop i = ix1 l → ix4 (i 0) (i 1) 0 l = i := by
    intro i e
    have h3 := hd i
    rw [e] at h3
    obtain ⟨q, b, o, l', rfl⟩ : ∃ (q : Fin 4) (b : Fin 2) (o : Fin 1) (l' : Fin 128), i = ix4 q b o l' := ⟨i 0, i 1, i 2, i 3, ValueIdx.eq_ix4 i⟩
    obtain rfl : o = 0 := Subsingleton.elim _ _
    obtain rfl : l = l' := Fin.ext h3
    rfl
  refine Finset.sum_nbij' (fun i => (i 0, i 1)) (fun p => ix4 p.1 p.2 0 l) (fun _ _ => Finset.mem_univ _) (fun p _ => ?_)
    (fun i hi => back i (Finset.mem_filter.mp hi).2) (fun _ _ => rfl) (fun i hi => congrArg a (back i (Finset.mem_filter.mp hi).2).symm)
  refine Finset.mem_filter.mpr ⟨Finset.mem_univ _, ?_⟩
  rw [ValueIdx.eq_ix1 (reducesTo_S4x2x1x128_S128_d0_1_2.drop (ix4 p.1 p.2 0 l))]
  exact congrArg ix1 (Fin.ext (hd _))

variable (m : (ℓ : Loc nD τ sig) → Buf (Elt Ideal) ℓ) (c : Dev nD)

theorem sum_lanes (l : Fin 128) : tailSum (arrSums m c) (ix1 l) = ((lanes (rowsOf (inZ m c)) (bookOf (inC m c)) l.val : ℝ) : EReal) := by
  rw [tailSum_apply]
  unfold lanes
  simp only [← coe_sum]
  rfl

theorem slice0 (a : FVec Ideal S4x2x1x128 .f32) (i : S_.Idx) :
    shapeCast S_ (extractStridedSlice S1 ![0] (tailSum a) slices_S128_S1_0) shapeCasts_S1_S_ i = tailSum a (ix1 0) := by
  generalize tailSum a = x
  rw [shapeCast_apply _ shapeCasts_S1_S_ i (ix1 0) (by rewrite [Shape.rowMajor_val_one]; rfl)]
  exact extractStridedSlice_apply _ _ _ _ _ (fun b => match b with | ⟨0, _⟩ => rfl)

theorem slice1 (a : FVec Ideal S4x2x1x128 .f32) (i : S_.Idx) :
    shapeCast S_ (extractStridedSlice S1 ![1] (tailSum a) slices_S128_S1_1) shapeCasts_S1_S_ i = tailSum a (ix1 1) := by
  generalize tailSum a = x
  rw [shapeCast_apply _ shapeCasts_S1_S_ i (ix1 0) (by rewrite [Shape.rowMajor_val_one]; rfl)]
  exact extractStridedSlice_apply _ _ _ _ _ (fun b => match b with | ⟨0, _⟩ => rfl)

theorem slice2 (a : FVec Ideal S4x2x1x128 .f32) (i : S_.Idx) :
    shapeCast S_ (extractStridedSlice S1 ![2] (tailSum a) slices_S128_S1_2) shapeCasts_S1_S_ i = tailSum a (ix1 2) := by
  generalize tailSum a = x
  rw [shapeCast_apply _ shapeCasts_S1_S_ i (ix1 0) (by rewrite [Shape.rowMajor_val_one]; rfl)]
  exact extractStridedSlice_apply _ _ _ _ _ (fun b => match b with | ⟨0, _⟩ => rfl)

theorem mean_val (i : S_.Idx) : tailMean (arrSums m c) i = (((∑ n, near (rowsOf (inZ m c) n) (bookOf (inC m c))) / 2097152 : ℝ) : EReal) := by
  show Ideal.div (shapeCast S_ _ _ i) (Ideal.ofBits .f32 0x4A000000#32) = _
  rw [slice0, sum_lanes, show ((0 : Fin 128).val) = 0 from rfl, lanes_near, lit_size, div_real _ (by norm_num)]

theorem loss_val (i : S_.Idx) : tailLoss (arrSums m c) i = ((lossOf (rowsOf (inZ m c)) (bookOf (inC m c)) : ℝ) : EReal) := by
  show FloatOps.addf (F := Ideal) (tailMean (arrSums m c) i) (FloatOps.mulf (FloatOps.ofBits .f32 0x3E800000#32) (tailMean (arrSums m c) i)) = _
  rw [mean_val, Ideal.addf_def, Ideal.mulf_def, Ideal.ofBits_def, lit_quarter, ← EReal.coe_mul, ← EReal.coe_add]
  rfl

theorem jsd_val (i : S_.Idx) : tailJsd (arrSums m c) i = ((jsdOf (rowsOf (inZ m c)) (bookOf (inC m c)) : ℝ) : EReal) := by
  show Ideal.div (shapeCast S_ _ _ i) (Ideal.ofBits .f32 0x45800000#32) = _
  rw [slice1, sum_lanes, show ((1 : Fin 128).val) = 1 from rfl, lanes_jsk, lit_4096, div_real _ (by norm_num)]
  rfl

theorem ent_val (i : S_.Idx) : tailEnt (arrSums m c) i = ((entOf (rowsOf (inZ m c)) (bookOf (inC m c)) : ℝ) : EReal) := by
  show Ideal.div (shapeCast S_ _ _ i) (Ideal.ofBits .f32 0x45800000#32) = _
  rw [slice2, sum_lanes, show ((2 : Fin 128).val) = 2 from rfl, lanes_went, lit_4096, div_real _ (by norm_num)]
  rfl

theorem prob_val (n : Fin 8192) (k : Fin 1024) :
    tailProb (arrProb m c) (ix2 n k) = ((prob (rowsOf (inZ m c) n) (bookOf (inC m c)) k : ℝ) : EReal) := by
  have hn := n.isLt
  unfold tailProb
  rw [shapeCast_apply (arrProb m c) _ _ (ix4 ⟨n.val / 4096, by omega⟩ ⟨n.val % 4096 / 1024, by omega⟩ ⟨n.val % 1024, by omega⟩ k)
    (by
      rewrite [Shape.rowMajor_val_two, Shape.rowMajor_val_four]
      show ((n.val / 4096 * 4 + n.val % 4096 / 1024) * 1024 + n.val % 1024) * 1024 + k.val = n.val * 1024 + k.val
      omega)]
  unfold arrProb
  refine congrArg _ (congrArg (fun n' => prob (rowsOf (inZ m c) n') (bookOf (inC m c)) k) (Fin.ext ?_))
  show n.val / 4096 * 4096 + n.val % 4096 / 1024 * 1024 + n.val % 1024 = n.val
  omega

theorem moved_val (b : Fin 8) (d : Fin 256) (y x : Fin 32) :
    tailMoved (arrMoved m c) (ix4 b d y x)
      = ((moved (rowsOf (inZ m c) ⟨b.val * 1024 + y.val * 32 + x.val, by omega⟩) (bookOf (inC m c)) d : ℝ) : EReal) := by
  have hb := b.isLt
  have hd := d.isLt
  have hy := y.isLt
  have hx := x.isLt
  unfold tailMoved
  rw [shapeCast_apply (arrMoved m c) _ _ (ix4 ⟨b.val / 4, by omega⟩ ⟨b.val % 4, by omega⟩ d ⟨y.val * 32 + x.val, by omega⟩)
    (by
      rewrite [Shape.rowMajor_val_four, Shape.rowMajor_val_four]
      show ((b.val / 4 * 4 + b.val % 4) * 256 + d.val) * 1024 + (y.val * 32 + x.val) = ((b.val * 256 + d.val) * 32 + y.val) * 32 + x.val
      omega)]
  unfold arrMoved
  refine congrArg _ (congrArg (fun n' => moved (rowsOf (inZ m c) n') (bookOf (inC m c)) d) (Fin.ext ?_))
  show b.val / 4 * 4096 + b.val % 4 * 1024 + (y.val * 32 + x.val) = b.val * 1024 + y.val * 32 + x.val
  omega

end Cert.KernelIdeal.Block

end
-- ==== Proof.RefVal.lean ====
/-
  The reference, one operation at a time: `val_<buffer>` is what the operation writes, as a function of the two
  arguments it depends on (`z` and the codebook), and `val_<buffer>_apply` reads it at an index from its operands.
-/
module

public import proofs.«01_k».proof.Proof.Gen.ReferenceIdeal
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.transpose %arg0, dims = [0, 2, 3, 1] : (tensor<8x256x32x32xf32>) -> tensor<8x32x32x256xf32>
def val_main_v0 (x0 : (⟨S8x256x32x32, .f32⟩ : BufTy).Contents (Elt F)) : (⟨S8x32x32x256, .f32⟩ : BufTy).Contents (Elt F) :=
  transpose S8x32x32x256 [0, 2, 3, 1] (x0) transposes_S8x256x32x32_S8x32x32x256_0_2_3_1
abbrev idx_main_v0 (i : S8x32x32x256.Idx) : S8x256x32x32.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 2).val, (i 2).isLt⟩
theorem val_main_v0_apply (x0 : (⟨S8x256x32x32, .f32⟩ : BufTy).Contents (Elt F)) (i : S8x32x32x256.Idx) :
    val_main_v0 (F := F) x0 i = x0 (idx_main_v0 i) := by
  unfold val_main_v0
  exact transpose_apply [0, 2, 3, 1] x0 transposes_S8x256x32x32_S8x32x32x256_0_2_3_1 i (idx_main_v0 i) (fun b => match b with
    | ⟨0, _⟩ => rfl
    | ⟨1, _⟩ => rfl
    | ⟨2, _⟩ => rfl
    | ⟨3, _⟩ => rfl)

-- %1 = stablehlo.reshape %0 : (tensor<8x32x32x256xf32>) -> tensor<8192x256xf32>
def val_main_v1 (x0 : (⟨S8x256x32x32, .f32⟩ : BufTy).Contents (Elt F)) : (⟨S8192x256, .f32⟩ : BufTy).Contents (Elt F) :=
  shapeCast _ (val_main_v0 (F := F) x0) shapeCasts_S8x32x32x256_S8192x256
set_option backward.proofsInPublic true in
abbrev idx_main_v1 (i : S8192x256.Idx) : S8x32x32x256.Idx := fun a => match a with
  | ⟨0, _⟩ => ⟨((i 0).val * 256 + (i 1).val) / 262144, by have h0 : (i 0).val < 8192 := (i 0).isLt; have h1 : (i 1).val < 256 := (i 1).isLt; show ((i 0).val * 256 + (i 1).val) / 262144 < 8; omega⟩
  | ⟨1, _⟩ => ⟨((i 0).val * 256 + (i 1).val) / 8192 % 32, by have h0 : (i 0).val < 8192 := (i 0).isLt; have h1 : (i 1).val < 256 := (i 1).isLt; show ((i 0).val * 256 + (i 1).val) / 8192 % 32 < 32; omega⟩
  | ⟨2, _⟩ => ⟨((i 0).val * 256 + (i 1).val) / 256 % 32, by have h0 : (i 0).val < 8192 := (i 0).isLt; have h1 : (i 1).val < 256 := (i 1).isLt; show ((i 0).val * 256 + (i 1).val) / 256 % 32 < 32; omega⟩
  | ⟨3, _⟩ => ⟨((i 0).val * 256 + (i 1).val) % 256, by have h0 : (i 0).val < 8192 := (i 0).isLt; have h1 : (i 1).val < 256 := (i 1).isLt; show ((i 0).val * 256 + (i 1).val) % 256 < 256; omega⟩
theorem val_main_v1_apply (x0 : (⟨S8x256x32x32, .f32⟩ : BufTy).Contents (Elt F)) (i : S8192x256.Idx) :
    val_main_v1 (F := F) x0 i = val_main_v0 (F := F) x0 (idx_main_v1 i) := by
  unfold val_main_v1
  generalize val_main_v0 (F := F) x0 = y
  exact shapeCast_apply y shapeCasts_S8x32x32x256_S8192x256 i (idx_main_v1 i)
    (by rewrite [Shape.rowMajor_val_four, Shape.rowMajor_val_two]; have h0 : (i 0).val < 8192 := (i 0).isLt; have h1 : (i 1).val < 256 := (i 1).isLt; show ((((i 0).val * 256 + (i 1).val) / 262144 * 32 + ((i 0).val * 256 + (i 1).val) / 8192 % 32) * 32 + ((i 0).val * 256 + (i 1).val) / 256 % 32) * 256 + ((i 0).val * 256 + (i 1).val) % 256 = (i 0).val * 256 + (i 1).val; omega)

-- %2 = stablehlo.multiply %1, %1 : tensor<8192x256xf32>
def val_main_v2 (x0 : (⟨S8x256x32x32, .f32⟩ : BufTy).Contents (Elt F)) : (⟨S8192x256, .f32⟩ : BufTy).Contents (Elt F) :=
  mulf (val_main_v1 (F := F) x0) (val_main_v1 (F := F) x0)
theorem val_main_v2_apply (x0 : (⟨S8x256x32x32, .f32⟩ : BufTy).Contents (Elt F)) (i : S8192x256.Idx) :
    val_main_v2 (F := F) x0 i = FloatOps.mulf (val_main_v1 (F := F) x0 i) (val_main_v1 (F := F) x0 i) := rfl

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %3 = stablehlo.reduce(%2 init: %cst) applies stablehlo.add across dimensions = [1] : (tensor<8192x256xf32>, tensor<f32>) -> tensor<8192xf32> {
def val_main_v3 (x0 : (⟨S8x256x32x32, .f32⟩ : BufTy).Contents (Elt F)) : (⟨S8192, .f32⟩ : BufTy).Contents (Elt F) :=
  Host.reduceAdd (val_main_v2 (F := F) x0) (val_main_cst (F := F)) reducesTo_S8192x256_S8192_d1 h_S_
abbrev idx_main_v3 (i : S8192.Idx) (k : Fin 256) : S8192x256.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v3_apply (x0 : (⟨S8x256x32x32, .f32⟩ : BufTy).Contents (Elt Ideal)) (i : S8192.Idx) :
    val_main_v3 (F := Ideal) x0 i = (val_main_cst (F := Ideal)) (Shape.Idx.first h_S_) + ∑ k : Fin 256, (val_main_v2 (F := Ideal) x0) (idx_main_v3 i k) := by
  unfold val_main_v3
  generalize val_main_v2 (F := Ideal) x0 = y0
  simp only [Host.reduceAdd, Ideal.hostReduceAdd_def]
  rw [Ideal.hostReduceAdd_single reducesTo_S8192x256_S8192_d1 (by decide)]
  refine congrArg (_ + ·) (Finset.sum_congr rfl fun k _ => ?_)
  exact congrArg y0 (funext fun a => Fin.ext (by match a with | ⟨0, _⟩ => rfl | ⟨1, _⟩ => rfl))

-- %4 = stablehlo.broadcast_in_dim %3, dims = [0] : (tensor<8192xf32>) -> tensor<8192x1xf32>
def val_main_v4 (x0 : (⟨S8x256x32x32, .f32⟩ : BufTy).Contents (Elt F)) : (⟨S8192x1, .f32⟩ : BufTy).Contents (Elt F) :=
  broadcastInDim S8192x1 ![0] bcast_S8192_S8192x1_0 (val_main_v3 (F := F) x0)
abbrev idx_main_v4 (i : S8192x1.Idx) : S8192.Idx := fun a => match a with
  | ⟨0, _⟩ => ⟨(i 0).val, (i 0).isLt⟩
theorem val_main_v4_apply (x0 : (⟨S8x256x32x32, .f32⟩ : BufTy).Contents (Elt F)) (i : S8192x1.Idx) :
    val_main_v4 (F := F) x0 i = val_main_v3 (F := F) x0 (idx_main_v4 i) := by
  unfold val_main_v4
  generalize val_main_v3 (F := F) x0 = y
  exact broadcastInDim_apply _ bcast_S8192_S8192x1_0 y i (idx_main_v4 i) (fun a => match a with
    | ⟨0, _⟩ => by show (i 0).val = if (8192 : Nat) = 1 then 0 else (i 0).val; rw [if_neg (by decide)])

-- %5 = stablehlo.multiply %arg3, %arg3 : tensor<1024x256xf32>
def val_main_v5 (x3 : (⟨S1024x256, .f32⟩ : BufTy).Contents (Elt F)) : (⟨S1024x256, .f32⟩ : BufTy).Contents (Elt F) :=
  mulf (x3) (x3)
theorem val_main_v5_apply (x3 : (⟨S1024x256, .f32⟩ : BufTy).Contents (Elt F)) (i : S1024x256.Idx) :
    val_main_v5 (F := F) x3 i = FloatOps.mulf (x3 i) (x3 i) := rfl

-- %cst_0 = stablehlo.constant dense<0.000000e+00> : tensor<f32>
def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

-- %6 = stablehlo.reduce(%5 init: %cst_0) applies stablehlo.add across dimensions = [1] : (tensor<1024x256xf32>, tensor<f32>) -> tensor<1024xf32> {
def val_main_v6 (x3 : (⟨S1024x256, .f32⟩ : BufTy).Contents (Elt F)) : (⟨S1024, .f32⟩ : BufTy).Contents (Elt F) :=
  Host.reduceAdd (val_main_v5 (F := F) x3) (val_main_cst_0 (F := F)) reducesTo_S1024x256_S1024_d1 h_S_
abbrev idx_main_v6 (i : S1024.Idx) (k : Fin 256) : S1024x256.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v6_apply (x3 : (⟨S1024x256, .f32⟩ : BufTy).Contents (Elt Ideal)) (i : S1024.Idx) :
    val_main_v6 (F := Ideal) x3 i = (val_main_cst_0 (F := Ideal)) (Shape.Idx.first h_S_) + ∑ k : Fin 256, (val_main_v5 (F := Ideal) x3) (idx_main_v6 i k) := by
  unfold val_main_v6
  generalize val_main_v5 (F := Ideal) x3 = y0
  simp only [Host.reduceAdd, Ideal.hostReduceAdd_def]
  rw [Ideal.hostReduceAdd_single reducesTo_S1024x256_S1024_d1 (by decide)]
  refine congrArg (_ + ·) (Finset.sum_congr rfl fun k _ => ?_)
  exact congrArg y0 (funext fun a => Fin.ext (by match a with | ⟨0, _⟩ => rfl | ⟨1, _⟩ => rfl))

-- %7 = stablehlo.broadcast_in_dim %6, dims = [1] : (tensor<1024xf32>) -> tensor<1x1024xf32>
def val_main_v7 (x3 : (⟨S1024x256, .f32⟩ : BufTy).Contents (Elt F)) : (⟨S1x1024, .f32⟩ : BufTy).Contents (Elt F) :=
  broadcastInDim S1x1024 ![1] bcast_S1024_S1x1024_1 (val_main_v6 (F := F) x3)
abbrev idx_main_v7 (i : S1x1024.Idx) : S1024.Idx := fun a => match a with
  | ⟨0, _⟩ => ⟨(i 1).val, (i 1).isLt⟩
theorem val_main_v7_apply (x3 : (⟨S1024x256, .f32⟩ : BufTy).Contents (Elt F)) (i : S1x1024.Idx) :
    val_main_v7 (F := F) x3 i = val_main_v6 (F := F) x3 (idx_main_v7 i) := by
  unfold val_main_v7
  generalize val_main_v6 (F := F) x3 = y
  exact broadcastInDim_apply _ bcast_S1024_S1x1024_1 y i (idx_main_v7 i) (fun a => match a with
    | ⟨0, _⟩ => by show (i 1).val = if (1024 : Nat) = 1 then 0 else (i 1).val; rw [if_neg (by decide)])

-- %8 = stablehlo.broadcast_in_dim %4, dims = [0, 1] : (tensor<8192x1xf32>) -> tensor<8192x1024xf32>
def val_main_v8 (x0 : (⟨S8x256x32x32, .f32⟩ : BufTy).Contents (Elt F)) : (⟨S8192x1024, .f32⟩ : BufTy).Contents (Elt F) :=
  broadcastInDim S8192x1024 ![0, 1] bcast_S8192x1_S8192x1024_0_1 (val_main_v4 (F := F) x0)
abbrev idx_main_v8 (i : S8192x1024.Idx) : S8192x1.Idx := fun a => match a with
  | ⟨0, _⟩ => ⟨(i 0).val, (i 0).isLt⟩
  | ⟨1, _⟩ => ⟨0, Nat.one_pos⟩
theorem val_main_v8_apply (x0 : (⟨S8x256x32x32, .f32⟩ : BufTy).Contents (Elt F)) (i : S8192x1024.Idx) :
    val_main_v8 (F := F) x0 i = val_main_v4 (F := F) x0 (idx_main_v8 i) := by
  unfold val_main_v8
  generalize val_main_v4 (F := F) x0 = y
  exact broadcastInDim_apply _ bcast_S8192x1_S8192x1024_0_1 y i (idx_main_v8 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

-- %9 = stablehlo.broadcast_in_dim %7, dims = [0, 1] : (tensor<1x1024xf32>) -> tensor<8192x1024xf32>
def val_main_v9 (x3 : (⟨S1024x256, .f32⟩ : BufTy).Contents (Elt F)) : (⟨S8192x1024, .f32⟩ : BufTy).Contents (Elt F) :=
  broadcastInDim S8192x1024 ![0, 1] bcast_S1x1024_S8192x1024_0_1 (val_main_v7 (F := F) x3)
abbrev idx_main_v9 (i : S8192x1024.Idx) : S1x1024.Idx := fun a => match a with
  | ⟨0, _⟩ => ⟨0, Nat.one_pos⟩
  | ⟨1, _⟩ => ⟨(i 1).val, (i 1).isLt⟩
theorem val_main_v9_apply (x3 : (⟨S1024x256, .f32⟩ : BufTy).Contents (Elt F)) (i : S8192x1024.Idx) :
    val_main_v9 (F := F) x3 i = val_main_v7 (F := F) x3 (idx_main_v9 i) := by
  unfold val_main_v9
  generalize val_main_v7 (F := F) x3 = y
  exact broadcastInDim_apply _ bcast_S1x1024_S8192x1024_0_1 y i (idx_main_v9 i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

-- %10 = stablehlo.add %8, %9 : tensor<8192x1024xf32>
def val_main_v10 (x0 : (⟨S8x256x32x32, .f32⟩ : BufTy).Contents (Elt F)) (x3 : (⟨S1024x256, .f32⟩ : BufTy).Contents (Elt F)) : (⟨S8192x1024, .f32⟩ : BufTy).Contents (Elt F) :=
  addf (val_main_v8 (F := F) x0) (val_main_v9 (F := F) x3)
theorem val_main_v10_apply (x0 : (⟨S8x256x32x32, .f32⟩ : BufTy).Contents (Elt F)) (x3 : (⟨S1024x256, .f32⟩ : BufTy).Contents (Elt F)) (i : S8192x1024.Idx) :
    val_main_v10 (F := F) x0 x3 i = FloatOps.addf (val_main_v8 (F := F) x0 i) (val_main_v9 (F := F) x3 i) := rfl

-- %11 = stablehlo.transpose %arg3, dims = [1, 0] : (tensor<1024x256xf32>) -> tensor<256x1024xf32>
def val_main_v11 (x3 : (⟨S1024x256, .f32⟩ : BufTy).Contents (Elt F)) : (⟨S256x1024, .f32⟩ : BufTy).Contents (Elt F) :=
  transpose S256x1024 [1, 0] (x3) transposes_S1024x256_S256x1024_1_0
abbrev idx_main_v11 (i : S256x1024.Idx) : S1024x256.Idx := fun a => match a with
  | ⟨0, _⟩ => ⟨(i 1).val, (i 1).isLt⟩
  | ⟨1, _⟩ => ⟨(i 0).val, (i 0).isLt⟩
theorem val_main_v11_apply (x3 : (⟨S1024x256, .f32⟩ : BufTy).Contents (Elt F)) (i : S256x1024.Idx) :
    val_main_v11 (F := F) x3 i = x3 (idx_main_v11 i) := by
  unfold val_main_v11
  exact transpose_apply [1, 0] x3 transposes_S1024x256_S256x1024_1_0 i (idx_main_v11 i) (fun b => match b with
    | ⟨0, _⟩ => rfl
    | ⟨1, _⟩ => rfl)

-- %12 = stablehlo.dot_general %1, %11, contracting_dims = [1] x [0], precision = [DEFAULT, DEFAULT] : (tensor<8192x256xf32>, tensor<256x1024xf32>) -> tensor<8192x1024xf32>
def val_main_v12 (x0 : (⟨S8x256x32x32, .f32⟩ : BufTy).Contents (Elt F)) (x3 : (⟨S1024x256, .f32⟩ : BufTy).Contents (Elt F)) : (⟨S8192x1024, .f32⟩ : BufTy).Contents (Elt F) :=
  Host.dotGeneral dot_S8192x256_S256x1024_S8192x1024_1_0_0_1_n_n none (val_main_v1 (F := F) x0) (val_main_v11 (F := F) x3)
theorem lhs_main_v12_0 (i : S8192x1024.Idx) (q : dot_S8192x256_S256x1024_S8192x1024_1_0_0_1_n_n.contr.Idx) :
    (dot_S8192x256_S256x1024_S8192x1024_1_0_0_1_n_n.lhsIdx i q 0).val = (i 0).val := by
  unfold DotDims.lhsIdx
  rw [dif_neg (show ¬(0 : Fin S8192x256.rank) ∈ dot_S8192x256_S256x1024_S8192x1024_1_0_0_1_n_n.lhsBatch by decide), dif_pos (show (0 : Fin S8192x256.rank) ∈ dot_S8192x256_S256x1024_S8192x1024_1_0_0_1_n_n.lhsNonContracting by decide)]
  rfl
theorem lhs_main_v12_1 (i : S8192x1024.Idx) (q : dot_S8192x256_S256x1024_S8192x1024_1_0_0_1_n_n.contr.Idx) :
    (dot_S8192x256_S256x1024_S8192x1024_1_0_0_1_n_n.lhsIdx i q 1).val = (q ⟨0, by decide⟩).val :=
  dot_S8192x256_S256x1024_S8192x1024_1_0_0_1_n_n.lhsIdx_val_of_single rfl i q
theorem rhs_main_v12_0 (i : S8192x1024.Idx) (q : dot_S8192x256_S256x1024_S8192x1024_1_0_0_1_n_n.contr.Idx) :
    (dot_S8192x256_S256x1024_S8192x1024_1_0_0_1_n_n.rhsIdx i q 0).val = (q ⟨0, by decide⟩).val :=
  dot_S8192x256_S256x1024_S8192x1024_1_0_0_1_n_n.rhsIdx_val_of_single rfl i q
theorem rhs_main_v12_1 (i : S8192x1024.Idx) (q : dot_S8192x256_S256x1024_S8192x1024_1_0_0_1_n_n.contr.Idx) :
    (dot_S8192x256_S256x1024_S8192x1024_1_0_0_1_n_n.rhsIdx i q 1).val = (i 1).val := by
  unfold DotDims.rhsIdx
  rw [dif_neg (show ¬(1 : Fin S256x1024.rank) ∈ dot_S8192x256_S256x1024_S8192x1024_1_0_0_1_n_n.rhsBatch by decide), dif_pos (show (1 : Fin S256x1024.rank) ∈ dot_S8192x256_S256x1024_S8192x1024_1_0_0_1_n_n.rhsNonContracting by decide)]
  rfl
abbrev lidx_main_v12 (i : S8192x1024.Idx) (k : Fin 256) : S8192x256.Idx := fun a => match a with
  | ⟨0, _⟩ => ⟨(i 0).val, (i 0).isLt⟩
  | ⟨1, _⟩ => ⟨k.val, k.isLt⟩
abbrev ridx_main_v12 (i : S8192x1024.Idx) (k : Fin 256) : S256x1024.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v12_apply (x0 : (⟨S8x256x32x32, .f32⟩ : BufTy).Contents (Elt Ideal)) (x3 : (⟨S1024x256, .f32⟩ : BufTy).Contents (Elt Ideal)) (i : S8192x1024.Idx) :
    val_main_v12 (F := Ideal) x0 x3 i = ∑ k : Fin 256, (val_main_v1 (F := Ideal) x0) (lidx_main_v12 i k) * (val_main_v11 (F := Ideal) x3) (ridx_main_v12 i k) := by
  unfold val_main_v12
  generalize val_main_v1 (F := Ideal) x0 = y0
  generalize val_main_v11 (F := Ideal) x3 = y1
  simp only [Host.dotGeneral]
  rw [Ideal.dotGeneral_apply, ← Equiv.sum_comp (ValueIdx.contrEquiv1 dot_S8192x256_S256x1024_S8192x1024_1_0_0_1_n_n 256 rfl rfl).symm]
  refine Finset.sum_congr rfl fun k _ => ?_
  have hk := ValueIdx.contrEquiv1_symm_val dot_S8192x256_S256x1024_S8192x1024_1_0_0_1_n_n 256 rfl rfl k
  have el : dot_S8192x256_S256x1024_S8192x1024_1_0_0_1_n_n.lhsIdx i ((ValueIdx.contrEquiv1 dot_S8192x256_S256x1024_S8192x1024_1_0_0_1_n_n 256 rfl rfl).symm k) = lidx_main_v12 i k := funext fun a => Fin.ext (by
    match a with
    | ⟨0, _⟩ => exact lhs_main_v12_0 _ _
    | ⟨1, _⟩ => exact (lhs_main_v12_1 _ _).trans hk)
  have er : dot_S8192x256_S256x1024_S8192x1024_1_0_0_1_n_n.rhsIdx i ((ValueIdx.contrEquiv1 dot_S8192x256_S256x1024_S8192x1024_1_0_0_1_n_n 256 rfl rfl).symm k) = ridx_main_v12 i k := funext fun a => Fin.ext (by
    match a with
    | ⟨0, _⟩ => exact (rhs_main_v12_0 _ _).trans hk
    | ⟨1, _⟩ => exact rhs_main_v12_1 _ _)
  rw [el, er]

-- %cst_1 = stablehlo.constant dense<2.000000e+00> : tensor<f32>
def val_main_cst_1 : (⟨S_, .f32⟩ : BufTy).Contents (Elt F) :=
  constant S_ .f32 0x40000000#32
theorem val_main_cst_1_apply (i : S_.Idx) :
    val_main_cst_1 (F := F) i = FloatOps.ofBits .f32 0x40000000#32 := rfl

-- %13 = stablehlo.broadcast_in_dim %cst_1, dims = [] : (tensor<f32>) -> tensor<8192x1024xf32>
def val_main_v13 : (⟨S8192x1024, .f32⟩ : BufTy).Contents (Elt F) :=
  broadcastInDim S8192x1024 ![] bcast_S_S8192x1024 (val_main_cst_1 (F := F))
abbrev idx_main_v13 (i : S8192x1024.Idx) : S_.Idx := fun a => a.elim0
theorem val_main_v13_apply (i : S8192x1024.Idx) :
    val_main_v13 (F := F) i = val_main_cst_1 (F := F) (idx_main_v13 i) := by
  unfold val_main_v13
  generalize val_main_cst_1 (F := F) = y
  exact broadcastInDim_apply _ bcast_S_S8192x1024 y i (idx_main_v13 i) (fun a => a.elim0)

-- %14 = stablehlo.multiply %13, %12 : tensor<8192x1024xf32>
def val_main_v14 (x0 : (⟨S8x256x32x32, .f32⟩ : BufTy).Contents (Elt F)) (x3 : (⟨S1024x256, .f32⟩ : BufTy).Contents (Elt F)) : (⟨S8192x1024, .f32⟩ : BufTy).Contents (Elt F) :=
  mulf (val_main_v13 (F := F)) (val_main_v12 (F := F) x0 x3)
theorem val_main_v14_apply (x0 : (⟨S8x256x32x32, .f32⟩ : BufTy).Contents (Elt F)) (x3 : (⟨S1024x256, .f32⟩ : BufTy).Contents (Elt F)) (i : S8192x1024.Idx) :
    val_main_v14 (F := F) x0 x3 i = FloatOps.mulf (val_main_v13 (F := F) i) (val_main_v12 (F := F) x0 x3 i) := rfl

-- %15 = stablehlo.subtract %10, %14 : tensor<8192x1024xf32>
def val_main_v15 (x0 : (⟨S8x256x32x32, .f32⟩ : BufTy).Contents (Elt F)) (x3 : (⟨S1024x256, .f32⟩ : BufTy).Contents (Elt F)) : (⟨S8192x1024, .f32⟩ : BufTy).Contents (Elt F) :=
  subf (val_main_v10 (F := F) x0 x3) (val_main_v14 (F := F) x0 x3)
theorem val_main_v15_apply (x0 : (⟨S8x256x32x32, .f32⟩ : BufTy).Contents (Elt F)) (x3 : (⟨S1024x256, .f32⟩ : BufTy).Contents (Elt F)) (i : S8192x1024.Idx) :
    val_main_v15 (F := F) x0 x3 i = FloatOps.subf (val_main_v10 (F := F) x0 x3 i) (val_main_v14 (F := F) x0 x3 i) := rfl

-- the positions along axis 1
def val_main_call0_v0 : (⟨S8192x1024, .i32⟩ : BufTy).Contents (Elt F) :=
  iotaInDim S8192x1024 32 1

-- the fold's initial value, +∞
def val_main_call0_cst : (⟨S_, .f32⟩ : BufTy).Contents (Elt F) :=
  constant S_ .f32 0x7F800000#32

-- the fold's initial position
def val_main_call0_c : (⟨S_, .i32⟩ : BufTy).Contents (Elt F) :=
  constantI S_ 32 0#32

-- each row's smallest entry with its position, the first on a tie
def least_pair (x0 : (⟨S8x256x32x32, .f32⟩ : BufTy).Contents (Elt F)) (x3 : (⟨S1024x256, .f32⟩ : BufTy).Contents (Elt F)) : S8192.Idx → F .f32 × BitVec 32 :=
  Host.argReduce reducer_argmin_f32_i32 (val_main_v15 (F := F) x0 x3) (val_main_call0_v0 (F := F)) (val_main_call0_cst (F := F)) (val_main_call0_c (F := F)) reducesTo_S8192x1024_S8192_d1 h_S_

-- the position of each row's smallest entry
def val_main_v16 (x0 : (⟨S8x256x32x32, .f32⟩ : BufTy).Contents (Elt F)) (x3 : (⟨S1024x256, .f32⟩ : BufTy).Contents (Elt F)) : (⟨S8192, .i32⟩ : BufTy).Contents (Elt F) :=
  fun j => (least_pair (F := F) x0 x3 j).2
theorem val_main_v16_eq (x0 : (⟨S8x256x32x32, .f32⟩ : BufTy).Contents (Elt F)) (x3 : (⟨S1024x256, .f32⟩ : BufTy).Contents (Elt F)) :
    val_main_v16 (F := F) x0 x3 = fun j => (least_pair (F := F) x0 x3 j).2 := rfl

-- %17 = stablehlo.negate %15 : tensor<8192x1024xf32>
def val_main_v17 (x0 : (⟨S8x256x32x32, .f32⟩ : BufTy).Contents (Elt F)) (x3 : (⟨S1024x256, .f32⟩ : BufTy).Contents (Elt F)) : (⟨S8192x1024, .f32⟩ : BufTy).Contents (Elt F) :=
  Host.negf (val_main_v15 (F := F) x0 x3)
theorem val_main_v17_apply (x0 : (⟨S8x256x32x32, .f32⟩ : BufTy).Contents (Elt F)) (x3 : (⟨S1024x256, .f32⟩ : BufTy).Contents (Elt F)) (i : S8192x1024.Idx) :
    val_main_v17 (F := F) x0 x3 i = FloatOps.hostNegf (val_main_v15 (F := F) x0 x3 i) := rfl

-- %cst_2 = stablehlo.constant dense<1.000000e+00> : tensor<f32>
def val_main_cst_2 : (⟨S_, .f32⟩ : BufTy).Contents (Elt F) :=
  constant S_ .f32 0x3F800000#32
theorem val_main_cst_2_apply (i : S_.Idx) :
    val_main_cst_2 (F := F) i = FloatOps.ofBits .f32 0x3F800000#32 := rfl

-- %18 = stablehlo.broadcast_in_dim %cst_2, dims = [] : (tensor<f32>) -> tensor<8192x1024xf32>
def val_main_v18 : (⟨S8192x1024, .f32⟩ : BufTy).Contents (Elt F) :=
  broadcastInDim S8192x1024 ![] bcast_S_S8192x1024 (val_main_cst_2 (F := F))
abbrev idx_main_v18 (i : S8192x1024.Idx) : S_.Idx := fun a => a.elim0
theorem val_main_v18_apply (i : S8192x1024.Idx) :
    val_main_v18 (F := F) i = val_main_cst_2 (F := F) (idx_main_v18 i) := by
  unfold val_main_v18
  generalize val_main_cst_2 (F := F) = y
  exact broadcastInDim_apply _ bcast_S_S8192x1024 y i (idx_main_v18 i) (fun a => a.elim0)

-- %19 = stablehlo.divide %17, %18 : tensor<8192x1024xf32>
def val_main_v19 (x0 : (⟨S8x256x32x32, .f32⟩ : BufTy).Contents (Elt F)) (x3 : (⟨S1024x256, .f32⟩ : BufTy).Contents (Elt F)) : (⟨S8192x1024, .f32⟩ : BufTy).Contents (Elt F) :=
  Host.divf (val_main_v17 (F := F) x0 x3) (val_main_v18 (F := F))
theorem val_main_v19_apply (x0 : (⟨S8x256x32x32, .f32⟩ : BufTy).Contents (Elt F)) (x3 : (⟨S1024x256, .f32⟩ : BufTy).Contents (Elt F)) (i : S8192x1024.Idx) :
    val_main_v19 (F := F) x0 x3 i = FloatOps.hostDivf (val_main_v17 (F := F) x0 x3 i) (val_main_v18 (F := F) i) := rfl

-- %cst_3 = stablehlo.constant dense<0xFF800000> : tensor<f32>
def val_main_cst_3 : (⟨S_, .f32⟩ : BufTy).Contents (Elt F) :=
  constant S_ .f32 0xFF800000#32
theorem val_main_cst_3_apply (i : S_.Idx) :
    val_main_cst_3 (F := F) i = FloatOps.ofBits .f32 0xFF800000#32 := rfl

-- %20 = stablehlo.reduce(%19 init: %cst_3) applies stablehlo.maximum across dimensions = [1] : (tensor<8192x1024xf32>, tensor<f32>) -> tensor<8192xf32> {
def val_main_v20 (x0 : (⟨S8x256x32x32, .f32⟩ : BufTy).Contents (Elt F)) (x3 : (⟨S1024x256, .f32⟩ : BufTy).Contents (Elt F)) : (⟨S8192, .f32⟩ : BufTy).Contents (Elt F) :=
  Host.reduce FloatOps.maximumf (val_main_v19 (F := F) x0 x3) (val_main_cst_3 (F := F)) reducesTo_S8192x1024_S8192_d1 h_S_

-- %cst_4 = stablehlo.constant dense<0xFF800000> : tensor<f32>
def val_main_cst_4 : (⟨S_, .f32⟩ : BufTy).Contents (Elt F) :=
  constant S_ .f32 0xFF800000#32
theorem val_main_cst_4_apply (i : S_.Idx) :
    val_main_cst_4 (F := F) i = FloatOps.ofBits .f32 0xFF800000#32 := rfl

-- %21 = stablehlo.broadcast_in_dim %cst_4, dims = [] : (tensor<f32>) -> tensor<8192xf32>
def val_main_v21 : (⟨S8192, .f32⟩ : BufTy).Contents (Elt F) :=
  broadcastInDim S8192 ![] bcast_S_S8192 (val_main_cst_4 (F := F))
abbrev idx_main_v21 (i : S8192.Idx) : S_.Idx := fun a => a.elim0
theorem val_main_v21_apply (i : S8192.Idx) :
    val_main_v21 (F := F) i = val_main_cst_4 (F := F) (idx_main_v21 i) := by
  unfold val_main_v21
  generalize val_main_cst_4 (F := F) = y
  exact broadcastInDim_apply _ bcast_S_S8192 y i (idx_main_v21 i) (fun a => a.elim0)

-- %22 = stablehlo.maximum %21, %20 : tensor<8192xf32>
def val_main_v22 (x0 : (⟨S8x256x32x32, .f32⟩ : BufTy).Contents (Elt F)) (x3 : (⟨S1024x256, .f32⟩ : BufTy).Contents (Elt F)) : (⟨S8192, .f32⟩ : BufTy).Contents (Elt F) :=
  maximumf (val_main_v21 (F := F)) (val_main_v20 (F := F) x0 x3)
theorem val_main_v22_apply (x0 : (⟨S8x256x32x32, .f32⟩ : BufTy).Contents (Elt F)) (x3 : (⟨S1024x256, .f32⟩ : BufTy).Contents (Elt F)) (i : S8192.Idx) :
    val_main_v22 (F := F) x0 x3 i = FloatOps.maximumf (val_main_v21 (F := F) i) (val_main_v20 (F := F) x0 x3 i) := rfl

-- %23 = stablehlo.broadcast_in_dim %22, dims = [0] : (tensor<8192xf32>) -> tensor<8192x1xf32>
def val_main_v23 (x0 : (⟨S8x256x32x32, .f32⟩ : BufTy).Contents (Elt F)) (x3 : (⟨S1024x256, .f32⟩ : BufTy).Contents (Elt F)) : (⟨S8192x1, .f32⟩ : BufTy).Contents (Elt F) :=
  broadcastInDim S8192x1 ![0] bcast_S8192_S8192x1_0 (val_main_v22 (F := F) x0 x3)
abbrev idx_main_v23 (i : S8192x1.Idx) : S8192.Idx := fun a => match a with
  | ⟨0, _⟩ => ⟨(i 0).val, (i 0).isLt⟩
theorem val_main_v23_apply (x0 : (⟨S8x256x32x32, .f32⟩ : BufTy).Contents (Elt F)) (x3 : (⟨S1024x256, .f32⟩ : BufTy).Contents (Elt F)) (i : S8192x1.Idx) :
    val_main_v23 (F := F) x0 x3 i = val_main_v22 (F := F) x0 x3 (idx_main_v23 i) := by
  unfold val_main_v23
  generalize val_main_v22 (F := F) x0 x3 = y
  exact broadcastInDim_apply _ bcast_S8192_S8192x1_0 y i (idx_main_v23 i) (fun a => match a with
    | ⟨0, _⟩ => by show (i 0).val = if (8192 : Nat) = 1 then 0 else (i 0).val; rw [if_neg (by decide)])

-- %24 = stablehlo.broadcast_in_dim %23, dims = [0, 1] : (tensor<8192x1xf32>) -> tensor<8192x1024xf32>
def val_main_v24 (x0 : (⟨S8x256x32x32, .f32⟩ : BufTy).Contents (Elt F)) (x3 : (⟨S1024x256, .f32⟩ : BufTy).Contents (Elt F)) : (⟨S8192x1024, .f32⟩ : BufTy).Contents (Elt F) :=
  broadcastInDim S8192x1024 ![0, 1] bcast_S8192x1_S8192x1024_0_1 (val_main_v23 (F := F) x0 x3)
abbrev idx_main_v24 (i : S8192x1024.Idx) : S8192x1.Idx := fun a => match a with
  | ⟨0, _⟩ => ⟨(i 0).val, (i 0).isLt⟩
  | ⟨1, _⟩ => ⟨0, Nat.one_pos⟩
theorem val_main_v24_apply (x0 : (⟨S8x256x32x32, .f32⟩ : BufTy).Contents (Elt F)) (x3 : (⟨S1024x256, .f32⟩ : BufTy).Contents (Elt F)) (i : S8192x1024.Idx) :
    val_main_v24 (F := F) x0 x3 i = val_main_v23 (F := F) x0 x3 (idx_main_v24 i) := by
  unfold val_main_v24
  generalize val_main_v23 (F := F) x0 x3 = y
  exact broadcastInDim_apply _ bcast_S8192x1_S8192x1024_0_1 y i (idx_main_v24 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

-- %25 = stablehlo.subtract %19, %24 : tensor<8192x1024xf32>
def val_main_v25 (x0 : (⟨S8x256x32x32, .f32⟩ : BufTy).Contents (Elt F)) (x3 : (⟨S1024x256, .f32⟩ : BufTy).Contents (Elt F)) : (⟨S8192x1024, .f32⟩ : BufTy).Contents (Elt F) :=
  subf (val_main_v19 (F := F) x0 x3) (val_main_v24 (F := F) x0 x3)
theorem val_main_v25_apply (x0 : (⟨S8x256x32x32, .f32⟩ : BufTy).Contents (Elt F)) (x3 : (⟨S1024x256, .f32⟩ : BufTy).Contents (Elt F)) (i : S8192x1024.Idx) :
    val_main_v25 (F := F) x0 x3 i = FloatOps.subf (val_main_v19 (F := F) x0 x3 i) (val_main_v24 (F := F) x0 x3 i) := rfl

-- %26 = stablehlo.exponential %25 : tensor<8192x1024xf32>
def val_main_v26 (x0 : (⟨S8x256x32x32, .f32⟩ : BufTy).Contents (Elt F)) (x3 : (⟨S1024x256, .f32⟩ : BufTy).Contents (Elt F)) : (⟨S8192x1024, .f32⟩ : BufTy).Contents (Elt F) :=
  Host.exp (val_main_v25 (F := F) x0 x3)
theorem val_main_v26_apply (x0 : (⟨S8x256x32x32, .f32⟩ : BufTy).Contents (Elt F)) (x3 : (⟨S1024x256, .f32⟩ : BufTy).Contents (Elt F)) (i : S8192x1024.Idx) :
    val_main_v26 (F := F) x0 x3 i = FloatOps.hostUnary .exp (val_main_v25 (F := F) x0 x3 i) := rfl

-- %cst_5 = stablehlo.constant dense<0.000000e+00> : tensor<f32>
def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

-- %27 = stablehlo.reduce(%26 init: %cst_5) applies stablehlo.add across dimensions = [1] : (tensor<8192x1024xf32>, tensor<f32>) -> tensor<8192xf32> {
def val_main_v27 (x0 : (⟨S8x256x32x32, .f32⟩ : BufTy).Contents (Elt F)) (x3 : (⟨S1024x256, .f32⟩ : BufTy).Contents (Elt F)) : (⟨S8192, .f32⟩ : BufTy).Contents (Elt F) :=
  Host.reduceAdd (val_main_v26 (F := F) x0 x3) (val_main_cst_5 (F := F)) reducesTo_S8192x1024_S8192_d1 h_S_
abbrev idx_main_v27 (i : S8192.Idx) (k : Fin 1024) : S8192x1024.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v27_apply (x0 : (⟨S8x256x32x32, .f32⟩ : BufTy).Contents (Elt Ideal)) (x3 : (⟨S1024x256, .f32⟩ : BufTy).Contents (Elt Ideal)) (i : S8192.Idx) :
    val_main_v27 (F := Ideal) x0 x3 i = (val_main_cst_5 (F := Ideal)) (Shape.Idx.first h_S_) + ∑ k : Fin 1024, (val_main_v26 (F := Ideal) x0 x3) (idx_main_v27 i k) := by
  unfold val_main_v27
  generalize val_main_v26 (F := Ideal) x0 x3 = y0
  simp only [Host.reduceAdd, Ideal.hostReduceAdd_def]
  rw [Ideal.hostReduceAdd_single reducesTo_S8192x1024_S8192_d1 (by decide)]
  refine congrArg (_ + ·) (Finset.sum_congr rfl fun k _ => ?_)
  exact congrArg y0 (funext fun a => Fin.ext (by match a with | ⟨0, _⟩ => rfl | ⟨1, _⟩ => rfl))

-- %28 = stablehlo.broadcast_in_dim %27, dims = [0] : (tensor<8192xf32>) -> tensor<8192x1xf32>
def val_main_v28 (x0 : (⟨S8x256x32x32, .f32⟩ : BufTy).Contents (Elt F)) (x3 : (⟨S1024x256, .f32⟩ : BufTy).Contents (Elt F)) : (⟨S8192x1, .f32⟩ : BufTy).Contents (Elt F) :=
  broadcastInDim S8192x1 ![0] bcast_S8192_S8192x1_0 (val_main_v27 (F := F) x0 x3)
abbrev idx_main_v28 (i : S8192x1.Idx) : S8192.Idx := fun a => match a with
  | ⟨0, _⟩ => ⟨(i 0).val, (i 0).isLt⟩
theorem val_main_v28_apply (x0 : (⟨S8x256x32x32, .f32⟩ : BufTy).Contents (Elt F)) (x3 : (⟨S1024x256, .f32⟩ : BufTy).Contents (Elt F)) (i : S8192x1.Idx) :
    val_main_v28 (F := F) x0 x3 i = val_main_v27 (F := F) x0 x3 (idx_main_v28 i) := by
  unfold val_main_v28
  generalize val_main_v27 (F := F) x0 x3 = y
  exact broadcastInDim_apply _ bcast_S8192_S8192x1_0 y i (idx_main_v28 i) (fun a => match a with
    | ⟨0, _⟩ => by show (i 0).val = if (8192 : Nat) = 1 then 0 else (i 0).val; rw [if_neg (by decide)])

-- %29 = stablehlo.broadcast_in_dim %28, dims = [0, 1] : (tensor<8192x1xf32>) -> tensor<8192x1024xf32>
def val_main_v29 (x0 : (⟨S8x256x32x32, .f32⟩ : BufTy).Contents (Elt F)) (x3 : (⟨S1024x256, .f32⟩ : BufTy).Contents (Elt F)) : (⟨S8192x1024, .f32⟩ : BufTy).Contents (Elt F) :=
  broadcastInDim S8192x1024 ![0, 1] bcast_S8192x1_S8192x1024_0_1 (val_main_v28 (F := F) x0 x3)
abbrev idx_main_v29 (i : S8192x1024.Idx) : S8192x1.Idx := fun a => match a with
  | ⟨0, _⟩ => ⟨(i 0).val, (i 0).isLt⟩
  | ⟨1, _⟩ => ⟨0, Nat.one_pos⟩
theorem val_main_v29_apply (x0 : (⟨S8x256x32x32, .f32⟩ : BufTy).Contents (Elt F)) (x3 : (⟨S1024x256, .f32⟩ : BufTy).Contents (Elt F)) (i : S8192x1024.Idx) :
    val_main_v29 (F := F) x0 x3 i = val_main_v28 (F := F) x0 x3 (idx_main_v29 i) := by
  unfold val_main_v29
  generalize val_main_v28 (F := F) x0 x3 = y
  exact broadcastInDim_apply _ bcast_S8192x1_S8192x1024_0_1 y i (idx_main_v29 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

-- %30 = stablehlo.divide %26, %29 : tensor<8192x1024xf32>
def val_main_v30 (x0 : (⟨S8x256x32x32, .f32⟩ : BufTy).Contents (Elt F)) (x3 : (⟨S1024x256, .f32⟩ : BufTy).Contents (Elt F)) : (⟨S8192x1024, .f32⟩ : BufTy).Contents (Elt F) :=
  Host.divf (val_main_v26 (F := F) x0 x3) (val_main_v29 (F := F) x0 x3)
theorem val_main_v30_apply (x0 : (⟨S8x256x32x32, .f32⟩ : BufTy).Contents (Elt F)) (x3 : (⟨S1024x256, .f32⟩ : BufTy).Contents (Elt F)) (i : S8192x1024.Idx) :
    val_main_v30 (F := F) x0 x3 i = FloatOps.hostDivf (val_main_v26 (F := F) x0 x3 i) (val_main_v29 (F := F) x0 x3 i) := rfl

-- @_take's %c = stablehlo.constant dense<0> : tensor<i32>, in %31 = func.call @_take(…) (record main_call1)
def val_main_call1_c : (⟨S_, .i32⟩ : BufTy).Contents (Elt F) :=
  constantI S_ 32 0#32
theorem val_main_call1_c_apply (i : S_.Idx) :
    val_main_call1_c (F := F) i = 0#32 := rfl

-- @_take's %0 = stablehlo.broadcast_in_dim %c, dims = [] : (tensor<i32>) -> tensor<8192xi32>, in %31 = func.call @_take(…) (record main_call1)
def val_main_call1_v0 : (⟨S8192, .i32⟩ : BufTy).Contents (Elt F) :=
  broadcastInDim S8192 ![] bcast_S_S8192 (val_main_call1_c (F := F))
abbrev idx_main_call1_v0 (i : S8192.Idx) : S_.Idx := fun a => a.elim0
theorem val_main_call1_v0_apply (i : S8192.Idx) :
    val_main_call1_v0 (F := F) i = val_main_call1_c (F := F) (idx_main_call1_v0 i) := by
  unfold val_main_call1_v0
  generalize val_main_call1_c (F := F) = y
  exact broadcastInDim_apply _ bcast_S_S8192 y i (idx_main_call1_v0 i) (fun a => a.elim0)

-- @_take's %1 = stablehlo.compare LT, %arg1, %0, SIGNED : (tensor<8192xi32>, tensor<8192xi32>) -> tensor<8192xi1>, in %31 = func.call @_take(…) (record main_call1)
def val_main_call1_v1 (x0 : (⟨S8x256x32x32, .f32⟩ : BufTy).Contents (Elt F)) (x3 : (⟨S1024x256, .f32⟩ : BufTy).Contents (Elt F)) : (⟨S8192, .i1⟩ : BufTy).Contents (Elt F) :=
  cmpi .slt (val_main_v16 (F := F) x0 x3) (val_main_call1_v0 (F := F))
theorem val_main_call1_v1_apply (x0 : (⟨S8x256x32x32, .f32⟩ : BufTy).Contents (Elt F)) (x3 : (⟨S1024x256, .f32⟩ : BufTy).Contents (Elt F)) (i : S8192.Idx) :
    val_main_call1_v1 (F := F) x0 x3 i = IntOp.cmpi .slt (val_main_v16 (F := F) x0 x3 i) (val_main_call1_v0 (F := F) i) := rfl

-- @_take's %c_0 = stablehlo.constant dense<1024> : tensor<i32>, in %31 = func.call @_take(…) (record main_call1)
def val_main_call1_c_0 : (⟨S_, .i32⟩ : BufTy).Contents (Elt F) :=
  constantI S_ 32 1024#32
theorem val_main_call1_c_0_apply (i : S_.Idx) :
    val_main_call1_c_0 (F := F) i = 1024#32 := rfl

-- @_take's %2 = stablehlo.broadcast_in_dim %c_0, dims = [] : (tensor<i32>) -> tensor<8192xi32>, in %31 = func.call @_take(…) (record main_call1)
def val_main_call1_v2 : (⟨S8192, .i32⟩ : BufTy).Contents (Elt F) :=
  broadcastInDim S8192 ![] bcast_S_S8192 (val_main_call1_c_0 (F := F))
abbrev idx_main_call1_v2 (i : S8192.Idx) : S_.Idx := fun a => a.elim0
theorem val_main_call1_v2_apply (i : S8192.Idx) :
    val_main_call1_v2 (F := F) i = val_main_call1_c_0 (F := F) (idx_main_call1_v2 i) := by
  unfold val_main_call1_v2
  generalize val_main_call1_c_0 (F := F) = y
  exact broadcastInDim_apply _ bcast_S_S8192 y i (idx_main_call1_v2 i) (fun a => a.elim0)

-- @_take's %3 = stablehlo.add %arg1, %2 : tensor<8192xi32>, in %31 = func.call @_take(…) (record main_call1)
def val_main_call1_v3 (x0 : (⟨S8x256x32x32, .f32⟩ : BufTy).Contents (Elt F)) (x3 : (⟨S1024x256, .f32⟩ : BufTy).Contents (Elt F)) : (⟨S8192, .i32⟩ : BufTy).Contents (Elt F) :=
  addi (val_main_v16 (F := F) x0 x3) (val_main_call1_v2 (F := F))
theorem val_main_call1_v3_apply (x0 : (⟨S8x256x32x32, .f32⟩ : BufTy).Contents (Elt F)) (x3 : (⟨S1024x256, .f32⟩ : BufTy).Contents (Elt F)) (i : S8192.Idx) :
    val_main_call1_v3 (F := F) x0 x3 i = IntOp.addi (val_main_v16 (F := F) x0 x3 i) (val_main_call1_v2 (F := F) i) := rfl

-- @_take's %4 = func.call @_where(…) (record main_call1_call0) result 0: @_where's %0 = stablehlo.select %arg0, %arg1, %arg2 : tensor<8192xi1>, tensor<8192xi32>
def val_main_call1_v4 (x0 : (⟨S8x256x32x32, .f32⟩ : BufTy).Contents (Elt F)) (x3 : (⟨S1024x256, .f32⟩ : BufTy).Contents (Elt F)) : (⟨S8192, .i32⟩ : BufTy).Contents (Elt F) :=
  select (val_main_call1_v1 (F := F) x0 x3) (val_main_call1_v3 (F := F) x0 x3) (val_main_v16 (F := F) x0 x3)
theorem val_main_call1_v4_apply (x0 : (⟨S8x256x32x32, .f32⟩ : BufTy).Contents (Elt F)) (x3 : (⟨S1024x256, .f32⟩ : BufTy).Contents (Elt F)) (i : S8192.Idx) :
    val_main_call1_v4 (F := F) x0 x3 i = Scalar.select (val_main_call1_v1 (F := F) x0 x3 i) (val_main_call1_v3 (F := F) x0 x3 i) (val_main_v16 (F := F) x0 x3 i) := rfl

-- @_take's %5 = stablehlo.broadcast_in_dim %4, dims = [0] : (tensor<8192xi32>) -> tensor<8192x1xi32>, in %31 = func.call @_take(…) (record main_call1)
def val_main_call1_v5 (x0 : (⟨S8x256x32x32, .f32⟩ : BufTy).Contents (Elt F)) (x3 : (⟨S1024x256, .f32⟩ : BufTy).Contents (Elt F)) : (⟨S8192x1, .i32⟩ : BufTy).Contents (Elt F) :=
  broadcastInDim S8192x1 ![0] bcast_S8192_S8192x1_0 (val_main_call1_v4 (F := F) x0 x3)
abbrev idx_main_call1_v5 (i : S8192x1.Idx) : S8192.Idx := fun a => match a with
  | ⟨0, _⟩ => ⟨(i 0).val, (i 0).isLt⟩
theorem val_main_call1_v5_apply (x0 : (⟨S8x256x32x32, .f32⟩ : BufTy).Contents (Elt F)) (x3 : (⟨S1024x256, .f32⟩ : BufTy).Contents (Elt F)) (i : S8192x1.Idx) :
    val_main_call1_v5 (F := F) x0 x3 i = val_main_call1_v4 (F := F) x0 x3 (idx_main_call1_v5 i) := by
  unfold val_main_call1_v5
  generalize val_main_call1_v4 (F := F) x0 x3 = y
  exact broadcastInDim_apply _ bcast_S8192_S8192x1_0 y i (idx_main_call1_v5 i) (fun a => match a with
    | ⟨0, _⟩ => by show (i 0).val = if (8192 : Nat) = 1 then 0 else (i 0).val; rw [if_neg (by decide)])

-- @_take's %c_1 = stablehlo.constant dense<1023> : tensor<1xi32>, in %31 = func.call @_take(…) (record main_call1)
def val_main_call1_c_1 : (⟨S1, .i32⟩ : BufTy).Contents (Elt F) :=
  constantI S1 32 1023#32
theorem val_main_call1_c_1_apply (i : S1.Idx) :
    val_main_call1_c_1 (F := F) i = 1023#32 := rfl

-- @_take's %c_2 = stablehlo.constant dense<0> : tensor<i32>, in %31 = func.call @_take(…) (record main_call1)
def val_main_call1_c_2 : (⟨S_, .i32⟩ : BufTy).Contents (Elt F) :=
  constantI S_ 32 0#32
theorem val_main_call1_c_2_apply (i : S_.Idx) :
    val_main_call1_c_2 (F := F) i = 0#32 := rfl

-- @_take's %6 = stablehlo.broadcast_in_dim %c_2, dims = [] : (tensor<i32>) -> tensor<8192x1xi32>, in %31 = func.call @_take(…) (record main_call1)
def val_main_call1_v6 : (⟨S8192x1, .i32⟩ : BufTy).Contents (Elt F) :=
  broadcastInDim S8192x1 ![] bcast_S_S8192x1 (val_main_call1_c_2 (F := F))
abbrev idx_main_call1_v6 (i : S8192x1.Idx) : S_.Idx := fun a => a.elim0
theorem val_main_call1_v6_apply (i : S8192x1.Idx) :
    val_main_call1_v6 (F := F) i = val_main_call1_c_2 (F := F) (idx_main_call1_v6 i) := by
  unfold val_main_call1_v6
  generalize val_main_call1_c_2 (F := F) = y
  exact broadcastInDim_apply _ bcast_S_S8192x1 y i (idx_main_call1_v6 i) (fun a => a.elim0)

-- @_take's %7 = stablehlo.compare GE, %5, %6, SIGNED : (tensor<8192x1xi32>, tensor<8192x1xi32>) -> tensor<8192x1xi1>, in %31 = func.call @_take(…) (record main_call1)
def val_main_call1_v7 (x0 : (⟨S8x256x32x32, .f32⟩ : BufTy).Contents (Elt F)) (x3 : (⟨S1024x256, .f32⟩ : BufTy).Contents (Elt F)) : (⟨S8192x1, .i1⟩ : BufTy).Contents (Elt F) :=
  cmpi .sge (val_main_call1_v5 (F := F) x0 x3) (val_main_call1_v6 (F := F))
theorem val_main_call1_v7_apply (x0 : (⟨S8x256x32x32, .f32⟩ : BufTy).Contents (Elt F)) (x3 : (⟨S1024x256, .f32⟩ : BufTy).Contents (Elt F)) (i : S8192x1.Idx) :
    val_main_call1_v7 (F := F) x0 x3 i = IntOp.cmpi .sge (val_main_call1_v5 (F := F) x0 x3 i) (val_main_call1_v6 (F := F) i) := rfl

-- @_take's %8 = stablehlo.broadcast_in_dim %c_1, dims = [1] : (tensor<1xi32>) -> tensor<1x1xi32>, in %31 = func.call @_take(…) (record main_call1)
def val_main_call1_v8 : (⟨S1x1, .i32⟩ : BufTy).Contents (Elt F) :=
  broadcastInDim S1x1 ![1] bcast_S1_S1x1_1 (val_main_call1_c_1 (F := F))
abbrev idx_main_call1_v8 (i : S1x1.Idx) : S1.Idx := fun a => match a with
  | ⟨0, _⟩ => ⟨0, Nat.one_pos⟩
theorem val_main_call1_v8_apply (i : S1x1.Idx) :
    val_main_call1_v8 (F := F) i = val_main_call1_c_1 (F := F) (idx_main_call1_v8 i) := by
  unfold val_main_call1_v8
  generalize val_main_call1_c_1 (F := F) = y
  exact broadcastInDim_apply _ bcast_S1_S1x1_1 y i (idx_main_call1_v8 i) (fun a => match a with
    | ⟨0, _⟩ => by show 0 = if (1 : Nat) = 1 then 0 else (i 1).val; rw [if_pos rfl])

-- @_take's %9 = stablehlo.broadcast_in_dim %8, dims = [0, 1] : (tensor<1x1xi32>) -> tensor<8192x1xi32>, in %31 = func.call @_take(…) (record main_call1)
def val_main_call1_v9 : (⟨S8192x1, .i32⟩ : BufTy).Contents (Elt F) :=
  broadcastInDim S8192x1 ![0, 1] bcast_S1x1_S8192x1_0_1 (val_main_call1_v8 (F := F))
abbrev idx_main_call1_v9 (i : S8192x1.Idx) : S1x1.Idx := fun a => match a with
  | ⟨0, _⟩ => ⟨0, Nat.one_pos⟩
  | ⟨1, _⟩ => ⟨0, Nat.one_pos⟩
theorem val_main_call1_v9_apply (i : S8192x1.Idx) :
    val_main_call1_v9 (F := F) i = val_main_call1_v8 (F := F) (idx_main_call1_v9 i) := by
  unfold val_main_call1_v9
  generalize val_main_call1_v8 (F := F) = y
  exact broadcastInDim_apply _ bcast_S1x1_S8192x1_0_1 y i (idx_main_call1_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

-- @_take's %10 = stablehlo.compare LE, %5, %9, SIGNED : (tensor<8192x1xi32>, tensor<8192x1xi32>) -> tensor<8192x1xi1>, in %31 = func.call @_take(…) (record main_call1)
def val_main_call1_v10 (x0 : (⟨S8x256x32x32, .f32⟩ : BufTy).Contents (Elt F)) (x3 : (⟨S1024x256, .f32⟩ : BufTy).Contents (Elt F)) : (⟨S8192x1, .i1⟩ : BufTy).Contents (Elt F) :=
  cmpi .sle (val_main_call1_v5 (F := F) x0 x3) (val_main_call1_v9 (F := F))
theorem val_main_call1_v10_apply (x0 : (⟨S8x256x32x32, .f32⟩ : BufTy).Contents (Elt F)) (x3 : (⟨S1024x256, .f32⟩ : BufTy).Contents (Elt F)) (i : S8192x1.Idx) :
    val_main_call1_v10 (F := F) x0 x3 i = IntOp.cmpi .sle (val_main_call1_v5 (F := F) x0 x3 i) (val_main_call1_v9 (F := F) i) := rfl

-- @_take's %11 = stablehlo.and %7, %10 : tensor<8192x1xi1>, in %31 = func.call @_take(…) (record main_call1)
def val_main_call1_v11 (x0 : (⟨S8x256x32x32, .f32⟩ : BufTy).Contents (Elt F)) (x3 : (⟨S1024x256, .f32⟩ : BufTy).Contents (Elt F)) : (⟨S8192x1, .i1⟩ : BufTy).Contents (Elt F) :=
  andi (val_main_call1_v7 (F := F) x0 x3) (val_main_call1_v10 (F := F) x0 x3)
theorem val_main_call1_v11_apply (x0 : (⟨S8x256x32x32, .f32⟩ : BufTy).Contents (Elt F)) (x3 : (⟨S1024x256, .f32⟩ : BufTy).Contents (Elt F)) (i : S8192x1.Idx) :
    val_main_call1_v11 (F := F) x0 x3 i = IntOp.andi (val_main_call1_v7 (F := F) x0 x3 i) (val_main_call1_v10 (F := F) x0 x3 i) := rfl

-- @_take's %c_3 = stablehlo.constant dense<true> : tensor<i1>, in %31 = func.call @_take(…) (record main_call1)
def val_main_call1_c_3 : (⟨S_, .i1⟩ : BufTy).Contents (Elt F) :=
  constantI S_ 1 1#1
theorem val_main_call1_c_3_apply (i : S_.Idx) :
    val_main_call1_c_3 (F := F) i = 1#1 := rfl

-- @_take's %12 = stablehlo.reduce(%11 init: %c_3) applies stablehlo.and across dimensions = [1] : (tensor<8192x1xi1>, tensor<i1>) -> tensor<8192xi1> {, in %31 = func.call @_take(…) (record main_call1)
def val_main_call1_v12 (x0 : (⟨S8x256x32x32, .f32⟩ : BufTy).Contents (Elt F)) (x3 : (⟨S1024x256, .f32⟩ : BufTy).Contents (Elt F)) : (⟨S8192, .i1⟩ : BufTy).Contents (Elt F) :=
  Host.reduce IntOp.andi (val_main_call1_v11 (F := F) x0 x3) (val_main_call1_c_3 (F := F)) reducesTo_S8192x1_S8192_d1 h_S_

-- @_take's %13 = "stablehlo.gather"(%arg0, %5) <{dimension_numbers = #stablehlo.gather<offset_dims = [1], collapsed_slice_dims = [0], start_index_map = [0], index_vector_dim = 1>, indices_are_sorted = false, slice_sizes = array<i64: 1, 256>}> : (tensor<1024x256xf32>, tensor<8192x1xi32>) -> tensor<8192x256xf32>, in %31 = func.call @_take(…) (record main_call1)
def val_main_call1_v13 (x0 : (⟨S8x256x32x32, .f32⟩ : BufTy).Contents (Elt F)) (x3 : (⟨S1024x256, .f32⟩ : BufTy).Contents (Elt F)) : (⟨S8192x256, .f32⟩ : BufTy).Contents (Elt F) :=
  Host.gather gather_S1024x256_S8192x1_S8192x256_1_0_n_n_0_1_1256 (x3) (val_main_call1_v5 (F := F) x0 x3)

-- @_take's %14 = stablehlo.broadcast_in_dim %12, dims = [0] : (tensor<8192xi1>) -> tensor<8192x256xi1>, in %31 = func.call @_take(…) (record main_call1)
def val_main_call1_v14 (x0 : (⟨S8x256x32x32, .f32⟩ : BufTy).Contents (Elt F)) (x3 : (⟨S1024x256, .f32⟩ : BufTy).Contents (Elt F)) : (⟨S8192x256, .i1⟩ : BufTy).Contents (Elt F) :=
  broadcastInDim S8192x256 ![0] bcast_S8192_S8192x256_0 (val_main_call1_v12 (F := F) x0 x3)
abbrev idx_main_call1_v14 (i : S8192x256.Idx) : S8192.Idx := fun a => match a with
  | ⟨0, _⟩ => ⟨(i 0).val, (i 0).isLt⟩
theorem val_main_call1_v14_apply (x0 : (⟨S8x256x32x32, .f32⟩ : BufTy).Contents (Elt F)) (x3 : (⟨S1024x256, .f32⟩ : BufTy).Contents (Elt F)) (i : S8192x256.Idx) :
    val_main_call1_v14 (F := F) x0 x3 i = val_main_call1_v12 (F := F) x0 x3 (idx_main_call1_v14 i) := by
  unfold val_main_call1_v14
  generalize val_main_call1_v12 (F := F) x0 x3 = y
  exact broadcastInDim_apply _ bcast_S8192_S8192x256_0 y i (idx_main_call1_v14 i) (fun a => match a with
    | ⟨0, _⟩ => by show (i 0).val = if (8192 : Nat) = 1 then 0 else (i 0).val; rw [if_neg (by decide)])

-- @_take's %cst = stablehlo.constant dense<0x7FC00000> : tensor<f32>, in %31 = func.call @_take(…) (record main_call1)
def val_main_call1_cst : (⟨S_, .f32⟩ : BufTy).Contents (Elt F) :=
  constant S_ .f32 0x7FC00000#32
theorem val_main_call1_cst_apply (i : S_.Idx) :
    val_main_call1_cst (F := F) i = FloatOps.ofBits .f32 0x7FC00000#32 := rfl

-- @_take's %15 = stablehlo.broadcast_in_dim %cst, dims = [] : (tensor<f32>) -> tensor<8192x256xf32>, in %31 = func.call @_take(…) (record main_call1)
def val_main_call1_v15 : (⟨S8192x256, .f32⟩ : BufTy).Contents (Elt F) :=
  broadcastInDim S8192x256 ![] bcast_S_S8192x256 (val_main_call1_cst (F := F))
abbrev idx_main_call1_v15 (i : S8192x256.Idx) : S_.Idx := fun a => a.elim0
theorem val_main_call1_v15_apply (i : S8192x256.Idx) :
    val_main_call1_v15 (F := F) i = val_main_call1_cst (F := F) (idx_main_call1_v15 i) := by
  unfold val_main_call1_v15
  generalize val_main_call1_cst (F := F) = y
  exact broadcastInDim_apply _ bcast_S_S8192x256 y i (idx_main_call1_v15 i) (fun a => a.elim0)

-- %31 = func.call @_take(…) (record main_call1) result 0: @_take's %16 = stablehlo.select %14, %13, %15 : tensor<8192x256xi1>, tensor<8192x256xf32>
def val_main_v31 (x0 : (⟨S8x256x32x32, .f32⟩ : BufTy).Contents (Elt F)) (x3 : (⟨S1024x256, .f32⟩ : BufTy).Contents (Elt F)) : (⟨S8192x256, .f32⟩ : BufTy).Contents (Elt F) :=
  select (val_main_call1_v14 (F := F) x0 x3) (val_main_call1_v13 (F := F) x0 x3) (val_main_call1_v15 (F := F))
theorem val_main_v31_apply (x0 : (⟨S8x256x32x32, .f32⟩ : BufTy).Contents (Elt F)) (x3 : (⟨S1024x256, .f32⟩ : BufTy).Contents (Elt F)) (i : S8192x256.Idx) :
    val_main_v31 (F := F) x0 x3 i = Scalar.select (val_main_call1_v14 (F := F) x0 x3 i) (val_main_call1_v13 (F := F) x0 x3 i) (val_main_call1_v15 (F := F) i) := rfl

-- %32 = stablehlo.subtract %31, %1 : tensor<8192x256xf32>
def val_main_v32 (x0 : (⟨S8x256x32x32, .f32⟩ : BufTy).Contents (Elt F)) (x3 : (⟨S1024x256, .f32⟩ : BufTy).Contents (Elt F)) : (⟨S8192x256, .f32⟩ : BufTy).Contents (Elt F) :=
  subf (val_main_v31 (F := F) x0 x3) (val_main_v1 (F := F) x0)
theorem val_main_v32_apply (x0 : (⟨S8x256x32x32, .f32⟩ : BufTy).Contents (Elt F)) (x3 : (⟨S1024x256, .f32⟩ : BufTy).Contents (Elt F)) (i : S8192x256.Idx) :
    val_main_v32 (F := F) x0 x3 i = FloatOps.subf (val_main_v31 (F := F) x0 x3 i) (val_main_v1 (F := F) x0 i) := rfl

-- %33 = stablehlo.multiply %32, %32 : tensor<8192x256xf32>
def val_main_v33 (x0 : (⟨S8x256x32x32, .f32⟩ : BufTy).Contents (Elt F)) (x3 : (⟨S1024x256, .f32⟩ : BufTy).Contents (Elt F)) : (⟨S8192x256, .f32⟩ : BufTy).Contents (Elt F) :=
  mulf (val_main_v32 (F := F) x0 x3) (val_main_v32 (F := F) x0 x3)
theorem val_main_v33_apply (x0 : (⟨S8x256x32x32, .f32⟩ : BufTy).Contents (Elt F)) (x3 : (⟨S1024x256, .f32⟩ : BufTy).Contents (Elt F)) (i : S8192x256.Idx) :
    val_main_v33 (F := F) x0 x3 i = FloatOps.mulf (val_main_v32 (F := F) x0 x3 i) (val_main_v32 (F := F) x0 x3 i) := rfl

-- %cst_6 = stablehlo.constant dense<0.000000e+00> : tensor<f32>
def val_main_cst_6 : (⟨S_, .f32⟩ : BufTy).Contents (Elt F) :=
  constant S_ .f32 0x00000000#32
theorem val_main_cst_6_apply (i : S_.Idx) :
    val_main_cst_6 (F := F) i = FloatOps.ofBits .f32 0x00000000#32 := rfl

-- %34 = stablehlo.reduce(%33 init: %cst_6) applies stablehlo.add across dimensions = [0, 1] : (tensor<8192x256xf32>, tensor<f32>) -> tensor<f32> {
def val_main_v34 (x0 : (⟨S8x256x32x32, .f32⟩ : BufTy).Contents (Elt F)) (x3 : (⟨S1024x256, .f32⟩ : BufTy).Contents (Elt F)) : (⟨S_, .f32⟩ : BufTy).Contents (Elt F) :=
  Host.reduceAdd (val_main_v33 (F := F) x0 x3) (val_main_cst_6 (F := F)) reducesTo_S8192x256_S_d0_1 h_S_
/-- Stated at `F := Ideal`, where the host's float sum is this sum; at a bit-exact instance it is an opaque function of its operand. -/
theorem val_main_v34_apply (x0 : (⟨S8x256x32x32, .f32⟩ : BufTy).Contents (Elt Ideal)) (x3 : (⟨S1024x256, .f32⟩ : BufTy).Contents (Elt Ideal)) (i : S_.Idx) :
    val_main_v34 (F := Ideal) x0 x3 i = (val_main_cst_6 (F := Ideal)) (Shape.Idx.first h_S_) + ∑ j : S8192x256.Idx, (val_main_v33 (F := Ideal) x0 x3) j := by
  unfold val_main_v34
  generalize val_main_v33 (F := Ideal) x0 x3 = y0
  simp only [Host.reduceAdd, Ideal.hostReduceAdd_def]
  exact Ideal.hostReduceAdd_total reducesTo_S8192x256_S_d0_1 (fun b => b.elim0) y0 _ i

-- %cst_7 = stablehlo.constant dense<0x4A000000> : tensor<f32>
def val_main_cst_7 : (⟨S_, .f32⟩ : BufTy).Contents (Elt F) :=
  constant S_ .f32 0x4A000000#32
theorem val_main_cst_7_apply (i : S_.Idx) :
    val_main_cst_7 (F := F) i = FloatOps.ofBits .f32 0x4A000000#32 := rfl

-- %35 = stablehlo.divide %34, %cst_7 : tensor<f32>
def val_main_v35 (x0 : (⟨S8x256x32x32, .f32⟩ : BufTy).Contents (Elt F)) (x3 : (⟨S1024x256, .f32⟩ : BufTy).Contents (Elt F)) : (⟨S_, .f32⟩ : BufTy).Contents (Elt F) :=
  Host.divf (val_main_v34 (F := F) x0 x3) (val_main_cst_7 (F := F))
theorem val_main_v35_apply (x0 : (⟨S8x256x32x32, .f32⟩ : BufTy).Contents (Elt F)) (x3 : (⟨S1024x256, .f32⟩ : BufTy).Contents (Elt F)) (i : S_.Idx) :
    val_main_v35 (F := F) x0 x3 i = FloatOps.hostDivf (val_main_v34 (F := F) x0 x3 i) (val_main_cst_7 (F := F) i) := rfl

-- %36 = stablehlo.subtract %1, %31 : tensor<8192x256xf32>
def val_main_v36 (x0 : (⟨S8x256x32x32, .f32⟩ : BufTy).Contents (Elt F)) (x3 : (⟨S1024x256, .f32⟩ : BufTy).Contents (Elt F)) : (⟨S8192x256, .f32⟩ : BufTy).Contents (Elt F) :=
  subf (val_main_v1 (F := F) x0) (val_main_v31 (F := F) x0 x3)
theorem val_main_v36_apply (x0 : (⟨S8x256x32x32, .f32⟩ : BufTy).Contents (Elt F)) (x3 : (⟨S1024x256, .f32⟩ : BufTy).Contents (Elt F)) (i : S8192x256.Idx) :
    val_main_v36 (F := F) x0 x3 i = FloatOps.subf (val_main_v1 (F := F) x0 i) (val_main_v31 (F := F) x0 x3 i) := rfl

-- %37 = stablehlo.multiply %36, %36 : tensor<8192x256xf32>
def val_main_v37 (x0 : (⟨S8x256x32x32, .f32⟩ : BufTy).Contents (Elt F)) (x3 : (⟨S1024x256, .f32⟩ : BufTy).Contents (Elt F)) : (⟨S8192x256, .f32⟩ : BufTy).Contents (Elt F) :=
  mulf (val_main_v36 (F := F) x0 x3) (val_main_v36 (F := F) x0 x3)
theorem val_main_v37_apply (x0 : (⟨S8x256x32x32, .f32⟩ : BufTy).Contents (Elt F)) (x3 : (⟨S1024x256, .f32⟩ : BufTy).Contents (Elt F)) (i : S8192x256.Idx) :
    val_main_v37 (F := F) x0 x3 i = FloatOps.mulf (val_main_v36 (F := F) x0 x3 i) (val_main_v36 (F := F) x0 x3 i) := rfl

-- %cst_8 = stablehlo.constant dense<0.000000e+00> : tensor<f32>
def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

-- %38 = stablehlo.reduce(%37 init: %cst_8) applies stablehlo.add across dimensions = [0, 1] : (tensor<8192x256xf32>, tensor<f32>) -> tensor<f32> {
def val_main_v38 (x0 : (⟨S8x256x32x32, .f32⟩ : BufTy).Contents (Elt F)) (x3 : (⟨S1024x256, .f32⟩ : BufTy).Contents (Elt F)) : (⟨S_, .f32⟩ : BufTy).Contents (Elt F) :=
  Host.reduceAdd (val_main_v37 (F := F) x0 x3) (val_main_cst_8 (F := F)) reducesTo_S8192x256_S_d0_1 h_S_
/-- Stated at `F := Ideal`, where the host's float sum is this sum; at a bit-exact instance it is an opaque function of its operand. -/
theorem val_main_v38_apply (x0 : (⟨S8x256x32x32, .f32⟩ : BufTy).Contents (Elt Ideal)) (x3 : (⟨S1024x256, .f32⟩ : BufTy).Contents (Elt Ideal)) (i : S_.Idx) :
    val_main_v38 (F := Ideal) x0 x3 i = (val_main_cst_8 (F := Ideal)) (Shape.Idx.first h_S_) + ∑ j : S8192x256.Idx, (val_main_v37 (F := Ideal) x0 x3) j := by
  unfold val_main_v38
  generalize val_main_v37 (F := Ideal) x0 x3 = y0
  simp only [Host.reduceAdd, Ideal.hostReduceAdd_def]
  exact Ideal.hostReduceAdd_total reducesTo_S8192x256_S_d0_1 (fun b => b.elim0) y0 _ i

-- %cst_9 = stablehlo.constant dense<0x4A000000> : tensor<f32>
def val_main_cst_9 : (⟨S_, .f32⟩ : BufTy).Contents (Elt F) :=
  constant S_ .f32 0x4A000000#32
theorem val_main_cst_9_apply (i : S_.Idx) :
    val_main_cst_9 (F := F) i = FloatOps.ofBits .f32 0x4A000000#32 := rfl

-- %39 = stablehlo.divide %38, %cst_9 : tensor<f32>
def val_main_v39 (x0 : (⟨S8x256x32x32, .f32⟩ : BufTy).Contents (Elt F)) (x3 : (⟨S1024x256, .f32⟩ : BufTy).Contents (Elt F)) : (⟨S_, .f32⟩ : BufTy).Contents (Elt F) :=
  Host.divf (val_main_v38 (F := F) x0 x3) (val_main_cst_9 (F := F))
theorem val_main_v39_apply (x0 : (⟨S8x256x32x32, .f32⟩ : BufTy).Contents (Elt F)) (x3 : (⟨S1024x256, .f32⟩ : BufTy).Contents (Elt F)) (i : S_.Idx) :
    val_main_v39 (F := F) x0 x3 i = FloatOps.hostDivf (val_main_v38 (F := F) x0 x3 i) (val_main_cst_9 (F := F) i) := rfl

-- %cst_10 = stablehlo.constant dense<2.500000e-01> : tensor<f32>
def val_main_cst_10 : (⟨S_, .f32⟩ : BufTy).Contents (Elt F) :=
  constant S_ .f32 0x3E800000#32
theorem val_main_cst_10_apply (i : S_.Idx) :
    val_main_cst_10 (F := F) i = FloatOps.ofBits .f32 0x3E800000#32 := rfl

-- %40 = stablehlo.multiply %cst_10, %39 : tensor<f32>
def val_main_v40 (x0 : (⟨S8x256x32x32, .f32⟩ : BufTy).Contents (Elt F)) (x3 : (⟨S1024x256, .f32⟩ : BufTy).Contents (Elt F)) : (⟨S_, .f32⟩ : BufTy).Contents (Elt F) :=
  mulf (val_main_cst_10 (F := F)) (val_main_v39 (F := F) x0 x3)
theorem val_main_v40_apply (x0 : (⟨S8x256x32x32, .f32⟩ : BufTy).Contents (Elt F)) (x3 : (⟨S1024x256, .f32⟩ : BufTy).Contents (Elt F)) (i : S_.Idx) :
    val_main_v40 (F := F) x0 x3 i = FloatOps.mulf (val_main_cst_10 (F := F) i) (val_main_v39 (F := F) x0 x3 i) := rfl

-- %41 = stablehlo.add %35, %40 : tensor<f32>
def val_main_v41 (x0 : (⟨S8x256x32x32, .f32⟩ : BufTy).Contents (Elt F)) (x3 : (⟨S1024x256, .f32⟩ : BufTy).Contents (Elt F)) : (⟨S_, .f32⟩ : BufTy).Contents (Elt F) :=
  addf (val_main_v35 (F := F) x0 x3) (val_main_v40 (F := F) x0 x3)
theorem val_main_v41_apply (x0 : (⟨S8x256x32x32, .f32⟩ : BufTy).Contents (Elt F)) (x3 : (⟨S1024x256, .f32⟩ : BufTy).Contents (Elt F)) (i : S_.Idx) :
    val_main_v41 (F := F) x0 x3 i = FloatOps.addf (val_main_v35 (F := F) x0 x3 i) (val_main_v40 (F := F) x0 x3 i) := rfl

-- %42 = stablehlo.subtract %31, %1 : tensor<8192x256xf32>
def val_main_v42 (x0 : (⟨S8x256x32x32, .f32⟩ : BufTy).Contents (Elt F)) (x3 : (⟨S1024x256, .f32⟩ : BufTy).Contents (Elt F)) : (⟨S8192x256, .f32⟩ : BufTy).Contents (Elt F) :=
  subf (val_main_v31 (F := F) x0 x3) (val_main_v1 (F := F) x0)
theorem val_main_v42_apply (x0 : (⟨S8x256x32x32, .f32⟩ : BufTy).Contents (Elt F)) (x3 : (⟨S1024x256, .f32⟩ : BufTy).Contents (Elt F)) (i : S8192x256.Idx) :
    val_main_v42 (F := F) x0 x3 i = FloatOps.subf (val_main_v31 (F := F) x0 x3 i) (val_main_v1 (F := F) x0 i) := rfl

-- %43 = stablehlo.add %1, %42 : tensor<8192x256xf32>
def val_main_v43 (x0 : (⟨S8x256x32x32, .f32⟩ : BufTy).Contents (Elt F)) (x3 : (⟨S1024x256, .f32⟩ : BufTy).Contents (Elt F)) : (⟨S8192x256, .f32⟩ : BufTy).Contents (Elt F) :=
  addf (val_main_v1 (F := F) x0) (val_main_v42 (F := F) x0 x3)
theorem val_main_v43_apply (x0 : (⟨S8x256x32x32, .f32⟩ : BufTy).Contents (Elt F)) (x3 : (⟨S1024x256, .f32⟩ : BufTy).Contents (Elt F)) (i : S8192x256.Idx) :
    val_main_v43 (F := F) x0 x3 i = FloatOps.addf (val_main_v1 (F := F) x0 i) (val_main_v42 (F := F) x0 x3 i) := rfl

-- %44 = stablehlo.reshape %43 : (tensor<8192x256xf32>) -> tensor<8x32x32x256xf32>
def val_main_v44 (x0 : (⟨S8x256x32x32, .f32⟩ : BufTy).Contents (Elt F)) (x3 : (⟨S1024x256, .f32⟩ : BufTy).Contents (Elt F)) : (⟨S8x32x32x256, .f32⟩ : BufTy).Contents (Elt F) :=
  shapeCast _ (val_main_v43 (F := F) x0 x3) shapeCasts_S8192x256_S8x32x32x256
set_option backward.proofsInPublic true in
abbrev idx_main_v44 (i : S8x32x32x256.Idx) : S8192x256.Idx := fun a => match a with
  | ⟨0, _⟩ => ⟨((((i 0).val * 32 + (i 1).val) * 32 + (i 2).val) * 256 + (i 3).val) / 256, by have h0 : (i 0).val < 8 := (i 0).isLt; have h1 : (i 1).val < 32 := (i 1).isLt; have h2 : (i 2).val < 32 := (i 2).isLt; have h3 : (i 3).val < 256 := (i 3).isLt; show ((((i 0).val * 32 + (i 1).val) * 32 + (i 2).val) * 256 + (i 3).val) / 256 < 8192; omega⟩
  | ⟨1, _⟩ => ⟨((((i 0).val * 32 + (i 1).val) * 32 + (i 2).val) * 256 + (i 3).val) % 256, by have h0 : (i 0).val < 8 := (i 0).isLt; have h1 : (i 1).val < 32 := (i 1).isLt; have h2 : (i 2).val < 32 := (i 2).isLt; have h3 : (i 3).val < 256 := (i 3).isLt; show ((((i 0).val * 32 + (i 1).val) * 32 + (i 2).val) * 256 + (i 3).val) % 256 < 256; omega⟩
theorem val_main_v44_apply (x0 : (⟨S8x256x32x32, .f32⟩ : BufTy).Contents (Elt F)) (x3 : (⟨S1024x256, .f32⟩ : BufTy).Contents (Elt F)) (i : S8x32x32x256.Idx) :
    val_main_v44 (F := F) x0 x3 i = val_main_v43 (F := F) x0 x3 (idx_main_v44 i) := by
  unfold val_main_v44
  generalize val_main_v43 (F := F) x0 x3 = y
  exact shapeCast_apply y shapeCasts_S8192x256_S8x32x32x256 i (idx_main_v44 i)
    (by rewrite [Shape.rowMajor_val_two, Shape.rowMajor_val_four]; have h0 : (i 0).val < 8 := (i 0).isLt; have h1 : (i 1).val < 32 := (i 1).isLt; have h2 : (i 2).val < 32 := (i 2).isLt; have h3 : (i 3).val < 256 := (i 3).isLt; show ((((i 0).val * 32 + (i 1).val) * 32 + (i 2).val) * 256 + (i 3).val) / 256 * 256 + ((((i 0).val * 32 + (i 1).val) * 32 + (i 2).val) * 256 + (i 3).val) % 256 = (((i 0).val * 32 + (i 1).val) * 32 + (i 2).val) * 256 + (i 3).val; omega)

-- %45 = stablehlo.transpose %44, dims = [0, 3, 1, 2] : (tensor<8x32x32x256xf32>) -> tensor<8x256x32x32xf32>
def val_main_v45 (x0 : (⟨S8x256x32x32, .f32⟩ : BufTy).Contents (Elt F)) (x3 : (⟨S1024x256, .f32⟩ : BufTy).Contents (Elt F)) : (⟨S8x256x32x32, .f32⟩ : BufTy).Contents (Elt F) :=
  transpose S8x256x32x32 [0, 3, 1, 2] (val_main_v44 (F := F) x0 x3) transposes_S8x32x32x256_S8x256x32x32_0_3_1_2
abbrev idx_main_v45 (i : S8x256x32x32.Idx) : S8x32x32x256.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨(i 1).val, (i 1).isLt⟩
theorem val_main_v45_apply (x0 : (⟨S8x256x32x32, .f32⟩ : BufTy).Contents (Elt F)) (x3 : (⟨S1024x256, .f32⟩ : BufTy).Contents (Elt F)) (i : S8x256x32x32.Idx) :
    val_main_v45 (F := F) x0 x3 i = val_main_v44 (F := F) x0 x3 (idx_main_v45 i) := by
  unfold val_main_v45
  generalize val_main_v44 (F := F) x0 x3 = y
  exact transpose_apply [0, 3, 1, 2] y transposes_S8x32x32x256_S8x256x32x32_0_3_1_2 i (idx_main_v45 i) (fun b => match b with
    | ⟨0, _⟩ => rfl
    | ⟨1, _⟩ => rfl
    | ⟨2, _⟩ => rfl
    | ⟨3, _⟩ => rfl)

-- %46 = stablehlo.slice %30 [0:4096, 0:1024] : (tensor<8192x1024xf32>) -> tensor<4096x1024xf32>
def val_main_v46 (x0 : (⟨S8x256x32x32, .f32⟩ : BufTy).Contents (Elt F)) (x3 : (⟨S1024x256, .f32⟩ : BufTy).Contents (Elt F)) : (⟨S4096x1024, .f32⟩ : BufTy).Contents (Elt F) :=
  extractStridedSlice S4096x1024 ![0, 0] (val_main_v30 (F := F) x0 x3) slices_S8192x1024_S4096x1024_0_0
set_option backward.proofsInPublic true in
abbrev idx_main_v46 (i : S4096x1024.Idx) : S8192x1024.Idx := fun a => match a with
  | ⟨0, _⟩ => ⟨(i 0).val, by have h0 : (i 0).val < 4096 := (i 0).isLt; show (i 0).val < 8192; omega⟩
  | ⟨1, _⟩ => ⟨(i 1).val, (i 1).isLt⟩
theorem val_main_v46_apply (x0 : (⟨S8x256x32x32, .f32⟩ : BufTy).Contents (Elt F)) (x3 : (⟨S1024x256, .f32⟩ : BufTy).Contents (Elt F)) (i : S4096x1024.Idx) :
    val_main_v46 (F := F) x0 x3 i = val_main_v30 (F := F) x0 x3 (idx_main_v46 i) := by
  unfold val_main_v46
  generalize val_main_v30 (F := F) x0 x3 = y
  exact extractStridedSlice_apply ![0, 0] y slices_S8192x1024_S4096x1024_0_0 i (idx_main_v46 i) (fun a => match a with
    | ⟨0, _⟩ => by show (i 0).val = 0 + (i 0).val; omega
    | ⟨1, _⟩ => by show (i 1).val = 0 + (i 1).val; omega)

-- %47 = stablehlo.slice %30 [4096:8192, 0:1024] : (tensor<8192x1024xf32>) -> tensor<4096x1024xf32>
def val_main_v47 (x0 : (⟨S8x256x32x32, .f32⟩ : BufTy).Contents (Elt F)) (x3 : (⟨S1024x256, .f32⟩ : BufTy).Contents (Elt F)) : (⟨S4096x1024, .f32⟩ : BufTy).Contents (Elt F) :=
  extractStridedSlice S4096x1024 ![4096, 0] (val_main_v30 (F := F) x0 x3) slices_S8192x1024_S4096x1024_4096_0
set_option backward.proofsInPublic true in
abbrev idx_main_v47 (i : S4096x1024.Idx) : S8192x1024.Idx := fun a => match a with
  | ⟨0, _⟩ => ⟨4096 + (i 0).val, by have h0 : (i 0).val < 4096 := (i 0).isLt; show 4096 + (i 0).val < 8192; omega⟩
  | ⟨1, _⟩ => ⟨(i 1).val, (i 1).isLt⟩
theorem val_main_v47_apply (x0 : (⟨S8x256x32x32, .f32⟩ : BufTy).Contents (Elt F)) (x3 : (⟨S1024x256, .f32⟩ : BufTy).Contents (Elt F)) (i : S4096x1024.Idx) :
    val_main_v47 (F := F) x0 x3 i = val_main_v30 (F := F) x0 x3 (idx_main_v47 i) := by
  unfold val_main_v47
  generalize val_main_v30 (F := F) x0 x3 = y
  exact extractStridedSlice_apply ![4096, 0] y slices_S8192x1024_S4096x1024_4096_0 i (idx_main_v47 i) (fun a => match a with
    | ⟨0, _⟩ => by show 4096 + (i 0).val = 4096 + (i 0).val; omega
    | ⟨1, _⟩ => by show (i 1).val = 0 + (i 1).val; omega)

-- %48 = stablehlo.add %46, %47 : tensor<4096x1024xf32>
def val_main_v48 (x0 : (⟨S8x256x32x32, .f32⟩ : BufTy).Contents (Elt F)) (x3 : (⟨S1024x256, .f32⟩ : BufTy).Contents (Elt F)) : (⟨S4096x1024, .f32⟩ : BufTy).Contents (Elt F) :=
  addf (val_main_v46 (F := F) x0 x3) (val_main_v47 (F := F) x0 x3)
theorem val_main_v48_apply (x0 : (⟨S8x256x32x32, .f32⟩ : BufTy).Contents (Elt F)) (x3 : (⟨S1024x256, .f32⟩ : BufTy).Contents (Elt F)) (i : S4096x1024.Idx) :
    val_main_v48 (F := F) x0 x3 i = FloatOps.addf (val_main_v46 (F := F) x0 x3 i) (val_main_v47 (F := F) x0 x3 i) := rfl

-- %cst_11 = stablehlo.constant dense<5.000000e-01> : tensor<f32>
def val_main_cst_11 : (⟨S_, .f32⟩ : BufTy).Contents (Elt F) :=
  constant S_ .f32 0x3F000000#32
theorem val_main_cst_11_apply (i : S_.Idx) :
    val_main_cst_11 (F := F) i = FloatOps.ofBits .f32 0x3F000000#32 := rfl

-- %49 = stablehlo.broadcast_in_dim %cst_11, dims = [] : (tensor<f32>) -> tensor<4096x1024xf32>
def val_main_v49 : (⟨S4096x1024, .f32⟩ : BufTy).Contents (Elt F) :=
  broadcastInDim S4096x1024 ![] bcast_S_S4096x1024 (val_main_cst_11 (F := F))
abbrev idx_main_v49 (i : S4096x1024.Idx) : S_.Idx := fun a => a.elim0
theorem val_main_v49_apply (i : S4096x1024.Idx) :
    val_main_v49 (F := F) i = val_main_cst_11 (F := F) (idx_main_v49 i) := by
  unfold val_main_v49
  generalize val_main_cst_11 (F := F) = y
  exact broadcastInDim_apply _ bcast_S_S4096x1024 y i (idx_main_v49 i) (fun a => a.elim0)

-- %50 = stablehlo.multiply %49, %48 : tensor<4096x1024xf32>
def val_main_v50 (x0 : (⟨S8x256x32x32, .f32⟩ : BufTy).Contents (Elt F)) (x3 : (⟨S1024x256, .f32⟩ : BufTy).Contents (Elt F)) : (⟨S4096x1024, .f32⟩ : BufTy).Contents (Elt F) :=
  mulf (val_main_v49 (F := F)) (val_main_v48 (F := F) x0 x3)
theorem val_main_v50_apply (x0 : (⟨S8x256x32x32, .f32⟩ : BufTy).Contents (Elt F)) (x3 : (⟨S1024x256, .f32⟩ : BufTy).Contents (Elt F)) (i : S4096x1024.Idx) :
    val_main_v50 (F := F) x0 x3 i = FloatOps.mulf (val_main_v49 (F := F) i) (val_main_v48 (F := F) x0 x3 i) := rfl

-- %51 = stablehlo.log %46 : tensor<4096x1024xf32>
def val_main_v51 (x0 : (⟨S8x256x32x32, .f32⟩ : BufTy).Contents (Elt F)) (x3 : (⟨S1024x256, .f32⟩ : BufTy).Contents (Elt F)) : (⟨S4096x1024, .f32⟩ : BufTy).Contents (Elt F) :=
  Host.log (val_main_v46 (F := F) x0 x3)
theorem val_main_v51_apply (x0 : (⟨S8x256x32x32, .f32⟩ : BufTy).Contents (Elt F)) (x3 : (⟨S1024x256, .f32⟩ : BufTy).Contents (Elt F)) (i : S4096x1024.Idx) :
    val_main_v51 (F := F) x0 x3 i = FloatOps.hostUnary .log (val_main_v46 (F := F) x0 x3 i) := rfl

-- %52 = stablehlo.log %50 : tensor<4096x1024xf32>
def val_main_v52 (x0 : (⟨S8x256x32x32, .f32⟩ : BufTy).Contents (Elt F)) (x3 : (⟨S1024x256, .f32⟩ : BufTy).Contents (Elt F)) : (⟨S4096x1024, .f32⟩ : BufTy).Contents (Elt F) :=
  Host.log (val_main_v50 (F := F) x0 x3)
theorem val_main_v52_apply (x0 : (⟨S8x256x32x32, .f32⟩ : BufTy).Contents (Elt F)) (x3 : (⟨S1024x256, .f32⟩ : BufTy).Contents (Elt F)) (i : S4096x1024.Idx) :
    val_main_v52 (F := F) x0 x3 i = FloatOps.hostUnary .log (val_main_v50 (F := F) x0 x3 i) := rfl

-- %53 = stablehlo.subtract %51, %52 : tensor<4096x1024xf32>
def val_main_v53 (x0 : (⟨S8x256x32x32, .f32⟩ : BufTy).Contents (Elt F)) (x3 : (⟨S1024x256, .f32⟩ : BufTy).Contents (Elt F)) : (⟨S4096x1024, .f32⟩ : BufTy).Contents (Elt F) :=
  subf (val_main_v51 (F := F) x0 x3) (val_main_v52 (F := F) x0 x3)
theorem val_main_v53_apply (x0 : (⟨S8x256x32x32, .f32⟩ : BufTy).Contents (Elt F)) (x3 : (⟨S1024x256, .f32⟩ : BufTy).Contents (Elt F)) (i : S4096x1024.Idx) :
    val_main_v53 (F := F) x0 x3 i = FloatOps.subf (val_main_v51 (F := F) x0 x3 i) (val_main_v52 (F := F) x0 x3 i) := rfl

-- %54 = stablehlo.multiply %46, %53 : tensor<4096x1024xf32>
def val_main_v54 (x0 : (⟨S8x256x32x32, .f32⟩ : BufTy).Contents (Elt F)) (x3 : (⟨S1024x256, .f32⟩ : BufTy).Contents (Elt F)) : (⟨S4096x1024, .f32⟩ : BufTy).Contents (Elt F) :=
  mulf (val_main_v46 (F := F) x0 x3) (val_main_v53 (F := F) x0 x3)
theorem val_main_v54_apply (x0 : (⟨S8x256x32x32, .f32⟩ : BufTy).Contents (Elt F)) (x3 : (⟨S1024x256, .f32⟩ : BufTy).Contents (Elt F)) (i : S4096x1024.Idx) :
    val_main_v54 (F := F) x0 x3 i = FloatOps.mulf (val_main_v46 (F := F) x0 x3 i) (val_main_v53 (F := F) x0 x3 i) := rfl

-- %cst_12 = stablehlo.constant dense<0.000000e+00> : tensor<f32>
def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl

-- %55 = stablehlo.reduce(%54 init: %cst_12) applies stablehlo.add across dimensions = [1] : (tensor<4096x1024xf32>, tensor<f32>) -> tensor<4096xf32> {
def val_main_v55 (x0 : (⟨S8x256x32x32, .f32⟩ : BufTy).Contents (Elt F)) (x3 : (⟨S1024x256, .f32⟩ : BufTy).Contents (Elt F)) : (⟨S4096, .f32⟩ : BufTy).Contents (Elt F) :=
  Host.reduceAdd (val_main_v54 (F := F) x0 x3) (val_main_cst_12 (F := F)) reducesTo_S4096x1024_S4096_d1 h_S_
abbrev idx_main_v55 (i : S4096.Idx) (k : Fin 1024) : S4096x1024.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v55_apply (x0 : (⟨S8x256x32x32, .f32⟩ : BufTy).Contents (Elt Ideal)) (x3 : (⟨S1024x256, .f32⟩ : BufTy).Contents (Elt Ideal)) (i : S4096.Idx) :
    val_main_v55 (F := Ideal) x0 x3 i = (val_main_cst_12 (F := Ideal)) (Shape.Idx.first h_S_) + ∑ k : Fin 1024, (val_main_v54 (F := Ideal) x0 x3) (idx_main_v55 i k) := by
  unfold val_main_v55
  generalize val_main_v54 (F := Ideal) x0 x3 = y0
  simp only [Host.reduceAdd, Ideal.hostReduceAdd_def]
  rw [Ideal.hostReduceAdd_single reducesTo_S4096x1024_S4096_d1 (by decide)]
  refine congrArg (_ + ·) (Finset.sum_congr rfl fun k _ => ?_)
  exact congrArg y0 (funext fun a => Fin.ext (by match a with | ⟨0, _⟩ => rfl | ⟨1, _⟩ => rfl))

-- %56 = stablehlo.log %47 : tensor<4096x1024xf32>
def val_main_v56 (x0 : (⟨S8x256x32x32, .f32⟩ : BufTy).Contents (Elt F)) (x3 : (⟨S1024x256, .f32⟩ : BufTy).Contents (Elt F)) : (⟨S4096x1024, .f32⟩ : BufTy).Contents (Elt F) :=
  Host.log (val_main_v47 (F := F) x0 x3)
theorem val_main_v56_apply (x0 : (⟨S8x256x32x32, .f32⟩ : BufTy).Contents (Elt F)) (x3 : (⟨S1024x256, .f32⟩ : BufTy).Contents (Elt F)) (i : S4096x1024.Idx) :
    val_main_v56 (F := F) x0 x3 i = FloatOps.hostUnary .log (val_main_v47 (F := F) x0 x3 i) := rfl

-- %57 = stablehlo.log %50 : tensor<4096x1024xf32>
def val_main_v57 (x0 : (⟨S8x256x32x32, .f32⟩ : BufTy).Contents (Elt F)) (x3 : (⟨S1024x256, .f32⟩ : BufTy).Contents (Elt F)) : (⟨S4096x1024, .f32⟩ : BufTy).Contents (Elt F) :=
  Host.log (val_main_v50 (F := F) x0 x3)
theorem val_main_v57_apply (x0 : (⟨S8x256x32x32, .f32⟩ : BufTy).Contents (Elt F)) (x3 : (⟨S1024x256, .f32⟩ : BufTy).Contents (Elt F)) (i : S4096x1024.Idx) :
    val_main_v57 (F := F) x0 x3 i = FloatOps.hostUnary .log (val_main_v50 (F := F) x0 x3 i) := rfl

-- %58 = stablehlo.subtract %56, %57 : tensor<4096x1024xf32>
def val_main_v58 (x0 : (⟨S8x256x32x32, .f32⟩ : BufTy).Contents (Elt F)) (x3 : (⟨S1024x256, .f32⟩ : BufTy).Contents (Elt F)) : (⟨S4096x1024, .f32⟩ : BufTy).Contents (Elt F) :=
  subf (val_main_v56 (F := F) x0 x3) (val_main_v57 (F := F) x0 x3)
theorem val_main_v58_apply (x0 : (⟨S8x256x32x32, .f32⟩ : BufTy).Contents (Elt F)) (x3 : (⟨S1024x256, .f32⟩ : BufTy).Contents (Elt F)) (i : S4096x1024.Idx) :
    val_main_v58 (F := F) x0 x3 i = FloatOps.subf (val_main_v56 (F := F) x0 x3 i) (val_main_v57 (F := F) x0 x3 i) := rfl

-- %59 = stablehlo.multiply %47, %58 : tensor<4096x1024xf32>
def val_main_v59 (x0 : (⟨S8x256x32x32, .f32⟩ : BufTy).Contents (Elt F)) (x3 : (⟨S1024x256, .f32⟩ : BufTy).Contents (Elt F)) : (⟨S4096x1024, .f32⟩ : BufTy).Contents (Elt F) :=
  mulf (val_main_v47 (F := F) x0 x3) (val_main_v58 (F := F) x0 x3)
theorem val_main_v59_apply (x0 : (⟨S8x256x32x32, .f32⟩ : BufTy).Contents (Elt F)) (x3 : (⟨S1024x256, .f32⟩ : BufTy).Contents (Elt F)) (i : S4096x1024.Idx) :
    val_main_v59 (F := F) x0 x3 i = FloatOps.mulf (val_main_v47 (F := F) x0 x3 i) (val_main_v58 (F := F) x0 x3 i) := rfl

-- %cst_13 = stablehlo.constant dense<0.000000e+00> : tensor<f32>
def val_main_cst_13 : (⟨S_, .f32⟩ : BufTy).Contents (Elt F) :=
  constant S_ .f32 0x00000000#32
theorem val_main_cst_13_apply (i : S_.Idx) :
    val_main_cst_13 (F := F) i = FloatOps.ofBits .f32 0x00000000#32 := rfl

-- %60 = stablehlo.reduce(%59 init: %cst_13) applies stablehlo.add across dimensions = [1] : (tensor<4096x1024xf32>, tensor<f32>) -> tensor<4096xf32> {
def val_main_v60 (x0 : (⟨S8x256x32x32, .f32⟩ : BufTy).Contents (Elt F)) (x3 : (⟨S1024x256, .f32⟩ : BufTy).Contents (Elt F)) : (⟨S4096, .f32⟩ : BufTy).Contents (Elt F) :=
  Host.reduceAdd (val_main_v59 (F := F) x0 x3) (val_main_cst_13 (F := F)) reducesTo_S4096x1024_S4096_d1 h_S_
abbrev idx_main_v60 (i : S4096.Idx) (k : Fin 1024) : S4096x1024.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v60_apply (x0 : (⟨S8x256x32x32, .f32⟩ : BufTy).Contents (Elt Ideal)) (x3 : (⟨S1024x256, .f32⟩ : BufTy).Contents (Elt Ideal)) (i : S4096.Idx) :
    val_main_v60 (F := Ideal) x0 x3 i = (val_main_cst_13 (F := Ideal)) (Shape.Idx.first h_S_) + ∑ k : Fin 1024, (val_main_v59 (F := Ideal) x0 x3) (idx_main_v60 i k) := by
  unfold val_main_v60
  generalize val_main_v59 (F := Ideal) x0 x3 = y0
  simp only [Host.reduceAdd, Ideal.hostReduceAdd_def]
  rw [Ideal.hostReduceAdd_single reducesTo_S4096x1024_S4096_d1 (by decide)]
  refine congrArg (_ + ·) (Finset.sum_congr rfl fun k _ => ?_)
  exact congrArg y0 (funext fun a => Fin.ext (by match a with | ⟨0, _⟩ => rfl | ⟨1, _⟩ => rfl))

-- %cst_14 = stablehlo.constant dense<5.000000e-01> : tensor<f32>
def val_main_cst_14 : (⟨S_, .f32⟩ : BufTy).Contents (Elt F) :=
  constant S_ .f32 0x3F000000#32
theorem val_main_cst_14_apply (i : S_.Idx) :
    val_main_cst_14 (F := F) i = FloatOps.ofBits .f32 0x3F000000#32 := rfl

-- %61 = stablehlo.broadcast_in_dim %cst_14, dims = [] : (tensor<f32>) -> tensor<4096xf32>
def val_main_v61 : (⟨S4096, .f32⟩ : BufTy).Contents (Elt F) :=
  broadcastInDim S4096 ![] bcast_S_S4096 (val_main_cst_14 (F := F))
abbrev idx_main_v61 (i : S4096.Idx) : S_.Idx := fun a => a.elim0
theorem val_main_v61_apply (i : S4096.Idx) :
    val_main_v61 (F := F) i = val_main_cst_14 (F := F) (idx_main_v61 i) := by
  unfold val_main_v61
  generalize val_main_cst_14 (F := F) = y
  exact broadcastInDim_apply _ bcast_S_S4096 y i (idx_main_v61 i) (fun a => a.elim0)

-- %62 = stablehlo.multiply %61, %55 : tensor<4096xf32>
def val_main_v62 (x0 : (⟨S8x256x32x32, .f32⟩ : BufTy).Contents (Elt F)) (x3 : (⟨S1024x256, .f32⟩ : BufTy).Contents (Elt F)) : (⟨S4096, .f32⟩ : BufTy).Contents (Elt F) :=
  mulf (val_main_v61 (F := F)) (val_main_v55 (F := F) x0 x3)
theorem val_main_v62_apply (x0 : (⟨S8x256x32x32, .f32⟩ : BufTy).Contents (Elt F)) (x3 : (⟨S1024x256, .f32⟩ : BufTy).Contents (Elt F)) (i : S4096.Idx) :
    val_main_v62 (F := F) x0 x3 i = FloatOps.mulf (val_main_v61 (F := F) i) (val_main_v55 (F := F) x0 x3 i) := rfl

-- %cst_15 = stablehlo.constant dense<5.000000e-01> : tensor<f32>
def val_main_cst_15 : (⟨S_, .f32⟩ : BufTy).Contents (Elt F) :=
  constant S_ .f32 0x3F000000#32
theorem val_main_cst_15_apply (i : S_.Idx) :
    val_main_cst_15 (F := F) i = FloatOps.ofBits .f32 0x3F000000#32 := rfl

-- %63 = stablehlo.broadcast_in_dim %cst_15, dims = [] : (tensor<f32>) -> tensor<4096xf32>
def val_main_v63 : (⟨S4096, .f32⟩ : BufTy).Contents (Elt F) :=
  broadcastInDim S4096 ![] bcast_S_S4096 (val_main_cst_15 (F := F))
abbrev idx_main_v63 (i : S4096.Idx) : S_.Idx := fun a => a.elim0
theorem val_main_v63_apply (i : S4096.Idx) :
    val_main_v63 (F := F) i = val_main_cst_15 (F := F) (idx_main_v63 i) := by
  unfold val_main_v63
  generalize val_main_cst_15 (F := F) = y
  exact broadcastInDim_apply _ bcast_S_S4096 y i (idx_main_v63 i) (fun a => a.elim0)

-- %64 = stablehlo.multiply %63, %60 : tensor<4096xf32>
def val_main_v64 (x0 : (⟨S8x256x32x32, .f32⟩ : BufTy).Contents (Elt F)) (x3 : (⟨S1024x256, .f32⟩ : BufTy).Contents (Elt F)) : (⟨S4096, .f32⟩ : BufTy).Contents (Elt F) :=
  mulf (val_main_v63 (F := F)) (val_main_v60 (F := F) x0 x3)
theorem val_main_v64_apply (x0 : (⟨S8x256x32x32, .f32⟩ : BufTy).Contents (Elt F)) (x3 : (⟨S1024x256, .f32⟩ : BufTy).Contents (Elt F)) (i : S4096.Idx) :
    val_main_v64 (F := F) x0 x3 i = FloatOps.mulf (val_main_v63 (F := F) i) (val_main_v60 (F := F) x0 x3 i) := rfl

-- %65 = stablehlo.add %62, %64 : tensor<4096xf32>
def val_main_v65 (x0 : (⟨S8x256x32x32, .f32⟩ : BufTy).Contents (Elt F)) (x3 : (⟨S1024x256, .f32⟩ : BufTy).Contents (Elt F)) : (⟨S4096, .f32⟩ : BufTy).Contents (Elt F) :=
  addf (val_main_v62 (F := F) x0 x3) (val_main_v64 (F := F) x0 x3)
theorem val_main_v65_apply (x0 : (⟨S8x256x32x32, .f32⟩ : BufTy).Contents (Elt F)) (x3 : (⟨S1024x256, .f32⟩ : BufTy).Contents (Elt F)) (i : S4096.Idx) :
    val_main_v65 (F := F) x0 x3 i = FloatOps.addf (val_main_v62 (F := F) x0 x3 i) (val_main_v64 (F := F) x0 x3 i) := rfl

-- %cst_16 = stablehlo.constant dense<0.000000e+00> : tensor<f32>
def val_main_cst_16 : (⟨S_, .f32⟩ : BufTy).Contents (Elt F) :=
  constant S_ .f32 0x00000000#32
theorem val_main_cst_16_apply (i : S_.Idx) :
    val_main_cst_16 (F := F) i = FloatOps.ofBits .f32 0x00000000#32 := rfl

-- %66 = stablehlo.reduce(%65 init: %cst_16) applies stablehlo.add across dimensions = [0] : (tensor<4096xf32>, tensor<f32>) -> tensor<f32> {
def val_main_v66 (x0 : (⟨S8x256x32x32, .f32⟩ : BufTy).Contents (Elt F)) (x3 : (⟨S1024x256, .f32⟩ : BufTy).Contents (Elt F)) : (⟨S_, .f32⟩ : BufTy).Contents (Elt F) :=
  Host.reduceAdd (val_main_v65 (F := F) x0 x3) (val_main_cst_16 (F := F)) reducesTo_S4096_S_d0 h_S_
/-- Stated at `F := Ideal`, where the host's float sum is this sum; at a bit-exact instance it is an opaque function of its operand. -/
theorem val_main_v66_apply (x0 : (⟨S8x256x32x32, .f32⟩ : BufTy).Contents (Elt Ideal)) (x3 : (⟨S1024x256, .f32⟩ : BufTy).Contents (Elt Ideal)) (i : S_.Idx) :
    val_main_v66 (F := Ideal) x0 x3 i = (val_main_cst_16 (F := Ideal)) (Shape.Idx.first h_S_) + ∑ j : S4096.Idx, (val_main_v65 (F := Ideal) x0 x3) j := by
  unfold val_main_v66
  generalize val_main_v65 (F := Ideal) x0 x3 = y0
  simp only [Host.reduceAdd, Ideal.hostReduceAdd_def]
  exact Ideal.hostReduceAdd_total reducesTo_S4096_S_d0 (fun b => b.elim0) y0 _ i

-- %cst_17 = stablehlo.constant dense<4.096000e+03> : tensor<f32>
def val_main_cst_17 : (⟨S_, .f32⟩ : BufTy).Contents (Elt F) :=
  constant S_ .f32 0x45800000#32
theorem val_main_cst_17_apply (i : S_.Idx) :
    val_main_cst_17 (F := F) i = FloatOps.ofBits .f32 0x45800000#32 := rfl

-- %67 = stablehlo.divide %66, %cst_17 : tensor<f32>
def val_main_v67 (x0 : (⟨S8x256x32x32, .f32⟩ : BufTy).Contents (Elt F)) (x3 : (⟨S1024x256, .f32⟩ : BufTy).Contents (Elt F)) : (⟨S_, .f32⟩ : BufTy).Contents (Elt F) :=
  Host.divf (val_main_v66 (F := F) x0 x3) (val_main_cst_17 (F := F))
theorem val_main_v67_apply (x0 : (⟨S8x256x32x32, .f32⟩ : BufTy).Contents (Elt F)) (x3 : (⟨S1024x256, .f32⟩ : BufTy).Contents (Elt F)) (i : S_.Idx) :
    val_main_v67 (F := F) x0 x3 i = FloatOps.hostDivf (val_main_v66 (F := F) x0 x3 i) (val_main_cst_17 (F := F) i) := rfl

-- %68 = stablehlo.log %46 : tensor<4096x1024xf32>
def val_main_v68 (x0 : (⟨S8x256x32x32, .f32⟩ : BufTy).Contents (Elt F)) (x3 : (⟨S1024x256, .f32⟩ : BufTy).Contents (Elt F)) : (⟨S4096x1024, .f32⟩ : BufTy).Contents (Elt F) :=
  Host.log (val_main_v46 (F := F) x0 x3)
theorem val_main_v68_apply (x0 : (⟨S8x256x32x32, .f32⟩ : BufTy).Contents (Elt F)) (x3 : (⟨S1024x256, .f32⟩ : BufTy).Contents (Elt F)) (i : S4096x1024.Idx) :
    val_main_v68 (F := F) x0 x3 i = FloatOps.hostUnary .log (val_main_v46 (F := F) x0 x3 i) := rfl

-- %69 = stablehlo.multiply %46, %68 : tensor<4096x1024xf32>
def val_main_v69 (x0 : (⟨S8x256x32x32, .f32⟩ : BufTy).Contents (Elt F)) (x3 : (⟨S1024x256, .f32⟩ : BufTy).Contents (Elt F)) : (⟨S4096x1024, .f32⟩ : BufTy).Contents (Elt F) :=
  mulf (val_main_v46 (F := F) x0 x3) (val_main_v68 (F := F) x0 x3)
theorem val_main_v69_apply (x0 : (⟨S8x256x32x32, .f32⟩ : BufTy).Contents (Elt F)) (x3 : (⟨S1024x256, .f32⟩ : BufTy).Contents (Elt F)) (i : S4096x1024.Idx) :
    val_main_v69 (F := F) x0 x3 i = FloatOps.mulf (val_main_v46 (F := F) x0 x3 i) (val_main_v68 (F := F) x0 x3 i) := rfl

-- %cst_18 = stablehlo.constant dense<0.000000e+00> : tensor<f32>
def val_main_cst_18 : (⟨S_, .f32⟩ : BufTy).Contents (Elt F) :=
  constant S_ .f32 0x00000000#32
theorem val_main_cst_18_apply (i : S_.Idx) :
    val_main_cst_18 (F := F) i = FloatOps.ofBits .f32 0x00000000#32 := rfl

-- %70 = stablehlo.reduce(%69 init: %cst_18) applies stablehlo.add across dimensions = [1] : (tensor<4096x1024xf32>, tensor<f32>) -> tensor<4096xf32> {
def val_main_v70 (x0 : (⟨S8x256x32x32, .f32⟩ : BufTy).Contents (Elt F)) (x3 : (⟨S1024x256, .f32⟩ : BufTy).Contents (Elt F)) : (⟨S4096, .f32⟩ : BufTy).Contents (Elt F) :=
  Host.reduceAdd (val_main_v69 (F := F) x0 x3) (val_main_cst_18 (F := F)) reducesTo_S4096x1024_S4096_d1 h_S_
abbrev idx_main_v70 (i : S4096.Idx) (k : Fin 1024) : S4096x1024.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v70_apply (x0 : (⟨S8x256x32x32, .f32⟩ : BufTy).Contents (Elt Ideal)) (x3 : (⟨S1024x256, .f32⟩ : BufTy).Contents (Elt Ideal)) (i : S4096.Idx) :
    val_main_v70 (F := Ideal) x0 x3 i = (val_main_cst_18 (F := Ideal)) (Shape.Idx.first h_S_) + ∑ k : Fin 1024, (val_main_v69 (F := Ideal) x0 x3) (idx_main_v70 i k) := by
  unfold val_main_v70
  generalize val_main_v69 (F := Ideal) x0 x3 = y0
  simp only [Host.reduceAdd, Ideal.hostReduceAdd_def]
  rw [Ideal.hostReduceAdd_single reducesTo_S4096x1024_S4096_d1 (by decide)]
  refine congrArg (_ + ·) (Finset.sum_congr rfl fun k _ => ?_)
  exact congrArg y0 (funext fun a => Fin.ext (by match a with | ⟨0, _⟩ => rfl | ⟨1, _⟩ => rfl))

-- %71 = stablehlo.negate %70 : tensor<4096xf32>
def val_main_v71 (x0 : (⟨S8x256x32x32, .f32⟩ : BufTy).Contents (Elt F)) (x3 : (⟨S1024x256, .f32⟩ : BufTy).Contents (Elt F)) : (⟨S4096, .f32⟩ : BufTy).Contents (Elt F) :=
  Host.negf (val_main_v70 (F := F) x0 x3)
theorem val_main_v71_apply (x0 : (⟨S8x256x32x32, .f32⟩ : BufTy).Contents (Elt F)) (x3 : (⟨S1024x256, .f32⟩ : BufTy).Contents (Elt F)) (i : S4096.Idx) :
    val_main_v71 (F := F) x0 x3 i = FloatOps.hostNegf (val_main_v70 (F := F) x0 x3 i) := rfl

-- %72 = stablehlo.log %47 : tensor<4096x1024xf32>
def val_main_v72 (x0 : (⟨S8x256x32x32, .f32⟩ : BufTy).Contents (Elt F)) (x3 : (⟨S1024x256, .f32⟩ : BufTy).Contents (Elt F)) : (⟨S4096x1024, .f32⟩ : BufTy).Contents (Elt F) :=
  Host.log (val_main_v47 (F := F) x0 x3)
theorem val_main_v72_apply (x0 : (⟨S8x256x32x32, .f32⟩ : BufTy).Contents (Elt F)) (x3 : (⟨S1024x256, .f32⟩ : BufTy).Contents (Elt F)) (i : S4096x1024.Idx) :
    val_main_v72 (F := F) x0 x3 i = FloatOps.hostUnary .log (val_main_v47 (F := F) x0 x3 i) := rfl

-- %73 = stablehlo.multiply %47, %72 : tensor<4096x1024xf32>
def val_main_v73 (x0 : (⟨S8x256x32x32, .f32⟩ : BufTy).Contents (Elt F)) (x3 : (⟨S1024x256, .f32⟩ : BufTy).Contents (Elt F)) : (⟨S4096x1024, .f32⟩ : BufTy).Contents (Elt F) :=
  mulf (val_main_v47 (F := F) x0 x3) (val_main_v72 (F := F) x0 x3)
theorem val_main_v73_apply (x0 : (⟨S8x256x32x32, .f32⟩ : BufTy).Contents (Elt F)) (x3 : (⟨S1024x256, .f32⟩ : BufTy).Contents (Elt F)) (i : S4096x1024.Idx) :
    val_main_v73 (F := F) x0 x3 i = FloatOps.mulf (val_main_v47 (F := F) x0 x3 i) (val_main_v72 (F := F) x0 x3 i) := rfl

-- %cst_19 = stablehlo.constant dense<0.000000e+00> : tensor<f32>
def val_main_cst_19 : (⟨S_, .f32⟩ : BufTy).Contents (Elt F) :=
  constant S_ .f32 0x00000000#32
theorem val_main_cst_19_apply (i : S_.Idx) :
    val_main_cst_19 (F := F) i = FloatOps.ofBits .f32 0x00000000#32 := rfl

-- %74 = stablehlo.reduce(%73 init: %cst_19) applies stablehlo.add across dimensions = [1] : (tensor<4096x1024xf32>, tensor<f32>) -> tensor<4096xf32> {
def val_main_v74 (x0 : (⟨S8x256x32x32, .f32⟩ : BufTy).Contents (Elt F)) (x3 : (⟨S1024x256, .f32⟩ : BufTy).Contents (Elt F)) : (⟨S4096, .f32⟩ : BufTy).Contents (Elt F) :=
  Host.reduceAdd (val_main_v73 (F := F) x0 x3) (val_main_cst_19 (F := F)) reducesTo_S4096x1024_S4096_d1 h_S_
abbrev idx_main_v74 (i : S4096.Idx) (k : Fin 1024) : S4096x1024.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v74_apply (x0 : (⟨S8x256x32x32, .f32⟩ : BufTy).Contents (Elt Ideal)) (x3 : (⟨S1024x256, .f32⟩ : BufTy).Contents (Elt Ideal)) (i : S4096.Idx) :
    val_main_v74 (F := Ideal) x0 x3 i = (val_main_cst_19 (F := Ideal)) (Shape.Idx.first h_S_) + ∑ k : Fin 1024, (val_main_v73 (F := Ideal) x0 x3) (idx_main_v74 i k) := by
  unfold val_main_v74
  generalize val_main_v73 (F := Ideal) x0 x3 = y0
  simp only [Host.reduceAdd, Ideal.hostReduceAdd_def]
  rw [Ideal.hostReduceAdd_single reducesTo_S4096x1024_S4096_d1 (by decide)]
  refine congrArg (_ + ·) (Finset.sum_congr rfl fun k _ => ?_)
  exact congrArg y0 (funext fun a => Fin.ext (by match a with | ⟨0, _⟩ => rfl | ⟨1, _⟩ => rfl))

-- %75 = stablehlo.negate %74 : tensor<4096xf32>
def val_main_v75 (x0 : (⟨S8x256x32x32, .f32⟩ : BufTy).Contents (Elt F)) (x3 : (⟨S1024x256, .f32⟩ : BufTy).Contents (Elt F)) : (⟨S4096, .f32⟩ : BufTy).Contents (Elt F) :=
  Host.negf (val_main_v74 (F := F) x0 x3)
theorem val_main_v75_apply (x0 : (⟨S8x256x32x32, .f32⟩ : BufTy).Contents (Elt F)) (x3 : (⟨S1024x256, .f32⟩ : BufTy).Contents (Elt F)) (i : S4096.Idx) :
    val_main_v75 (F := F) x0 x3 i = FloatOps.hostNegf (val_main_v74 (F := F) x0 x3 i) := rfl

-- %cst_20 = stablehlo.constant dense<0.000000e+00> : tensor<f32>
def val_main_cst_20 : (⟨S_, .f32⟩ : BufTy).Contents (Elt F) :=
  constant S_ .f32 0x00000000#32
theorem val_main_cst_20_apply (i : S_.Idx) :
    val_main_cst_20 (F := F) i = FloatOps.ofBits .f32 0x00000000#32 := rfl

-- %76 = stablehlo.reduce(%71 init: %cst_20) applies stablehlo.add across dimensions = [0] : (tensor<4096xf32>, tensor<f32>) -> tensor<f32> {
def val_main_v76 (x0 : (⟨S8x256x32x32, .f32⟩ : BufTy).Contents (Elt F)) (x3 : (⟨S1024x256, .f32⟩ : BufTy).Contents (Elt F)) : (⟨S_, .f32⟩ : BufTy).Contents (Elt F) :=
  Host.reduceAdd (val_main_v71 (F := F) x0 x3) (val_main_cst_20 (F := F)) reducesTo_S4096_S_d0 h_S_
/-- Stated at `F := Ideal`, where the host's float sum is this sum; at a bit-exact instance it is an opaque function of its operand. -/
theorem val_main_v76_apply (x0 : (⟨S8x256x32x32, .f32⟩ : BufTy).Contents (Elt Ideal)) (x3 : (⟨S1024x256, .f32⟩ : BufTy).Contents (Elt Ideal)) (i : S_.Idx) :
    val_main_v76 (F := Ideal) x0 x3 i = (val_main_cst_20 (F := Ideal)) (Shape.Idx.first h_S_) + ∑ j : S4096.Idx, (val_main_v71 (F := Ideal) x0 x3) j := by
  unfold val_main_v76
  generalize val_main_v71 (F := Ideal) x0 x3 = y0
  simp only [Host.reduceAdd, Ideal.hostReduceAdd_def]
  exact Ideal.hostReduceAdd_total reducesTo_S4096_S_d0 (fun b => b.elim0) y0 _ i

-- %cst_21 = stablehlo.constant dense<4.096000e+03> : tensor<f32>
def val_main_cst_21 : (⟨S_, .f32⟩ : BufTy).Contents (Elt F) :=
  constant S_ .f32 0x45800000#32
theorem val_main_cst_21_apply (i : S_.Idx) :
    val_main_cst_21 (F := F) i = FloatOps.ofBits .f32 0x45800000#32 := rfl

-- %77 = stablehlo.divide %76, %cst_21 : tensor<f32>
def val_main_v77 (x0 : (⟨S8x256x32x32, .f32⟩ : BufTy).Contents (Elt F)) (x3 : (⟨S1024x256, .f32⟩ : BufTy).Contents (Elt F)) : (⟨S_, .f32⟩ : BufTy).Contents (Elt F) :=
  Host.divf (val_main_v76 (F := F) x0 x3) (val_main_cst_21 (F := F))
theorem val_main_v77_apply (x0 : (⟨S8x256x32x32, .f32⟩ : BufTy).Contents (Elt F)) (x3 : (⟨S1024x256, .f32⟩ : BufTy).Contents (Elt F)) (i : S_.Idx) :
    val_main_v77 (F := F) x0 x3 i = FloatOps.hostDivf (val_main_v76 (F := F) x0 x3 i) (val_main_cst_21 (F := F) i) := rfl

-- %cst_22 = stablehlo.constant dense<0.000000e+00> : tensor<f32>
def val_main_cst_22 : (⟨S_, .f32⟩ : BufTy).Contents (Elt F) :=
  constant S_ .f32 0x00000000#32
theorem val_main_cst_22_apply (i : S_.Idx) :
    val_main_cst_22 (F := F) i = FloatOps.ofBits .f32 0x00000000#32 := rfl

-- %78 = stablehlo.reduce(%75 init: %cst_22) applies stablehlo.add across dimensions = [0] : (tensor<4096xf32>, tensor<f32>) -> tensor<f32> {
def val_main_v78 (x0 : (⟨S8x256x32x32, .f32⟩ : BufTy).Contents (Elt F)) (x3 : (⟨S1024x256, .f32⟩ : BufTy).Contents (Elt F)) : (⟨S_, .f32⟩ : BufTy).Contents (Elt F) :=
  Host.reduceAdd (val_main_v75 (F := F) x0 x3) (val_main_cst_22 (F := F)) reducesTo_S4096_S_d0 h_S_
/-- Stated at `F := Ideal`, where the host's float sum is this sum; at a bit-exact instance it is an opaque function of its operand. -/
theorem val_main_v78_apply (x0 : (⟨S8x256x32x32, .f32⟩ : BufTy).Contents (Elt Ideal)) (x3 : (⟨S1024x256, .f32⟩ : BufTy).Contents (Elt Ideal)) (i : S_.Idx) :
    val_main_v78 (F := Ideal) x0 x3 i = (val_main_cst_22 (F := Ideal)) (Shape.Idx.first h_S_) + ∑ j : S4096.Idx, (val_main_v75 (F := Ideal) x0 x3) j := by
  unfold val_main_v78
  generalize val_main_v75 (F := Ideal) x0 x3 = y0
  simp only [Host.reduceAdd, Ideal.hostReduceAdd_def]
  exact Ideal.hostReduceAdd_total reducesTo_S4096_S_d0 (fun b => b.elim0) y0 _ i

-- %cst_23 = stablehlo.constant dense<4.096000e+03> : tensor<f32>
def val_main_cst_23 : (⟨S_, .f32⟩ : BufTy).Contents (Elt F) :=
  constant S_ .f32 0x45800000#32
theorem val_main_cst_23_apply (i : S_.Idx) :
    val_main_cst_23 (F := F) i = FloatOps.ofBits .f32 0x45800000#32 := rfl

-- %79 = stablehlo.divide %78, %cst_23 : tensor<f32>
def val_main_v79 (x0 : (⟨S8x256x32x32, .f32⟩ : BufTy).Contents (Elt F)) (x3 : (⟨S1024x256, .f32⟩ : BufTy).Contents (Elt F)) : (⟨S_, .f32⟩ : BufTy).Contents (Elt F) :=
  Host.divf (val_main_v78 (F := F) x0 x3) (val_main_cst_23 (F := F))
theorem val_main_v79_apply (x0 : (⟨S8x256x32x32, .f32⟩ : BufTy).Contents (Elt F)) (x3 : (⟨S1024x256, .f32⟩ : BufTy).Contents (Elt F)) (i : S_.Idx) :
    val_main_v79 (F := F) x0 x3 i = FloatOps.hostDivf (val_main_v78 (F := F) x0 x3 i) (val_main_cst_23 (F := F) i) := rfl

-- %80 = stablehlo.add %77, %79 : tensor<f32>
def val_main_v80 (x0 : (⟨S8x256x32x32, .f32⟩ : BufTy).Contents (Elt F)) (x3 : (⟨S1024x256, .f32⟩ : BufTy).Contents (Elt F)) : (⟨S_, .f32⟩ : BufTy).Contents (Elt F) :=
  addf (val_main_v77 (F := F) x0 x3) (val_main_v79 (F := F) x0 x3)
theorem val_main_v80_apply (x0 : (⟨S8x256x32x32, .f32⟩ : BufTy).Contents (Elt F)) (x3 : (⟨S1024x256, .f32⟩ : BufTy).Contents (Elt F)) (i : S_.Idx) :
    val_main_v80 (F := F) x0 x3 i = FloatOps.addf (val_main_v77 (F := F) x0 x3 i) (val_main_v79 (F := F) x0 x3 i) := rfl

-- %cst_24 = stablehlo.constant dense<5.000000e-01> : tensor<f32>
def val_main_cst_24 : (⟨S_, .f32⟩ : BufTy).Contents (Elt F) :=
  constant S_ .f32 0x3F000000#32
theorem val_main_cst_24_apply (i : S_.Idx) :
    val_main_cst_24 (F := F) i = FloatOps.ofBits .f32 0x3F000000#32 := rfl

-- %81 = stablehlo.multiply %cst_24, %80 : tensor<f32>
def val_main_v81 (x0 : (⟨S8x256x32x32, .f32⟩ : BufTy).Contents (Elt F)) (x3 : (⟨S1024x256, .f32⟩ : BufTy).Contents (Elt F)) : (⟨S_, .f32⟩ : BufTy).Contents (Elt F) :=
  mulf (val_main_cst_24 (F := F)) (val_main_v80 (F := F) x0 x3)
theorem val_main_v81_apply (x0 : (⟨S8x256x32x32, .f32⟩ : BufTy).Contents (Elt F)) (x3 : (⟨S1024x256, .f32⟩ : BufTy).Contents (Elt F)) (i : S_.Idx) :
    val_main_v81 (F := F) x0 x3 i = FloatOps.mulf (val_main_cst_24 (F := F) i) (val_main_v80 (F := F) x0 x3 i) := rfl

end Cert.ReferenceIdeal.Read

end
-- ==== Proof.RefDist.lean ====
/-
  The reference's distances, probabilities and chosen codes at real inputs: each is the model's number.
-/
module

public import proofs.«01_k».proof.Proof.RefVal
public import proofs.«01_k».proof.Proof.Model
public import proofs.«01_k».proof.Proof.Folds
public import Idealize.ShloMosaic.Lib.ValueIdxCore

@[expose] public section

noncomputable section

namespace Cert.ReferenceIdeal.Read

open Cert.ReferenceIdeal Cert.ReferenceIdeal.Gen Idealize.ShloMosaic Idealize.ShloMosaic.StableHlo Cert.VQ

/-- The inputs hold real numbers: `Z` are the rows the reference makes of `z`, `C` is the codebook. -/
structure Holds (x0 : (⟨S8x256x32x32, .f32⟩ : BufTy).Contents (Elt Ideal))
    (x3 : (⟨S1024x256, .f32⟩ : BufTy).Contents (Elt Ideal)) (Z : Fin 8192 → Row) (C : Book) : Prop where
  row : ∀ i : S8192x256.Idx, val_main_v1 (F := Ideal) x0 i = ((Z (i 0) (i 1) : ℝ) : EReal)
  code : ∀ i : S1024x256.Idx, x3 i = ((C (i 0) (i 1) : ℝ) : EReal)

variable {x0 : (⟨S8x256x32x32, .f32⟩ : BufTy).Contents (Elt Ideal)}
  {x3 : (⟨S1024x256, .f32⟩ : BufTy).Contents (Elt Ideal)} {Z : Fin 8192 → Row} {C : Book}

theorem sq_row (h : Holds x0 x3 Z C) (i : S8192.Idx) :
    val_main_v3 (F := Ideal) x0 i = ((∑ d, Z (i 0) d * Z (i 0) d : ℝ) : EReal) := by
  rw [val_main_v3_apply, ← coe_sum]
  simp only [val_main_v2_apply, h.row, Ideal.mulf_def, ← EReal.coe_mul]
  show Ideal.ofBits .f32 0x00000000#32 + _ = _
  rw [lit_zero, EReal.coe_zero, zero_add]
  rfl

theorem sq_code (h : Holds x0 x3 Z C) (i : S1024.Idx) :
    val_main_v6 (F := Ideal) x3 i = ((∑ d, C (i 0) d * C (i 0) d : ℝ) : EReal) := by
  rw [val_main_v6_apply, ← coe_sum]
  simp only [val_main_v5_apply, h.code, Ideal.mulf_def, ← EReal.coe_mul]
  show Ideal.ofBits .f32 0x00000000#32 + _ = _
  rw [lit_zero, EReal.coe_zero, zero_add]
  rfl

theorem cross (h : Holds x0 x3 Z C) (i : S8192x1024.Idx) :
    val_main_v12 (F := Ideal) x0 x3 i = ((∑ d, Z (i 0) d * C (i 1) d : ℝ) : EReal) := by
  rw [val_main_v12_apply, ← coe_sum]
  simp only [val_main_v11_apply, h.row, h.code, ← EReal.coe_mul]
  rfl

theorem dist_val (h : Holds x0 x3 Z C) (i : S8192x1024.Idx) :
    val_main_v15 (F := Ideal) x0 x3 i = ((dist (Z (i 0)) C (i 1) : ℝ) : EReal) := by
  rw [val_main_v15_apply, val_main_v10_apply, val_main_v14_apply, val_main_v8_apply, val_main_v9_apply,
    val_main_v4_apply, val_main_v7_apply, val_main_v13_apply, val_main_cst_1_apply, sq_row h, sq_code h, cross h]
  simp only [Ideal.mulf_def, Ideal.addf_def, Ideal.subf_def, Ideal.ofBits_def, lit_two]
  simp only [← EReal.coe_mul, ← EReal.coe_add, ← EReal.coe_sub]
  rfl

/-- The comparison body keeps the pair with the lesser value, and the lesser position on a tie. -/
theorem reducer_eq (a b : EReal × BitVec 32) :
    reducer_argmin_f32_i32 (F := Ideal) a b = if key a < key b then a else b := by
  obtain ⟨a, i⟩ := a
  obtain ⟨b, j⟩ := b
  have e1 : FloatOps.cmpf (F := Ideal) (φ := .f32) .olt a b = BitVec.ofBool (decide (a < b)) := rfl
  have e2 : FloatOps.cmpf (F := Ideal) (φ := .f32) .une a a = 0#1 := by
    show BitVec.ofBool (decide (a ≠ a)) = _; simp
  have e3 : FloatOps.cmpf (F := Ideal) (φ := .f32) .oeq a b = BitVec.ofBool (decide (a = b)) := rfl
  have e4 : IntOp.cmpi .slt i j = BitVec.ofBool (decide (i.toInt < j.toInt)) := by
    simp [IntOp.cmpi, BitVec.slt]
  unfold reducer_argmin_f32_i32
  simp only [e1, e2, e3, e4, key, Prod.Lex.toLex_lt_toLex]
  clear e1 e2 e3 e4
  by_cases h1 : a < b
  · have h2 : a ≠ b := ne_of_lt h1
    rw [decide_eq_false h2]
    simp [IntOp.ori, IntOp.andi, Scalar.select, h1]
  · by_cases h2 : a = b
    · subst h2
      by_cases h3 : i.toInt < j.toInt
      · simp [IntOp.ori, IntOp.andi, Scalar.select, h3]
      · simp [IntOp.ori, IntOp.andi, Scalar.select, h3]
    · rw [decide_eq_false h1, decide_eq_false h2]
      simp [IntOp.ori, IntOp.andi, Scalar.select, h1, h2]

/-- The pairs a two-operand reduction folds at `j` are those of the indices that drop to `j`. -/
theorem mem_fiber {s t : Shape} {axes : List (Fin s.rank)} {α β : Type} (x : s.Idx → α) (y : s.Idx → β)
    (h : s.ReducesTo axes t) (j : t.Idx) (q : α × β) :
    q ∈ Host.argReduceFiber x y h j ↔ ∃ i : s.Idx, h.drop i = j ∧ q = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

theorem drop_row (i : S8192x1024.Idx) (j : S8192.Idx) : reducesTo_S8192x1024_S8192_d1.drop i = j ↔ i 0 = j 0 := by
  constructor
  · intro h
    rw [← h]
    rfl
  · intro h
    funext a
    match a with
    | ⟨0, _⟩ => exact h

theorem key_injective : Function.Injective key := by
  rintro ⟨a, i⟩ ⟨b, j⟩ e
  have e := congrArg (fun q => ofLex q) e
  simp only [key, ofLex_toLex, Prod.mk.injEq] at e
  rw [e.1, BitVec.toInt_inj.mp e.2]

/-- The reference's arg-min at `j` is the pair `p` when `p` is one of the pairs folded there and below all of them. -/
theorem argmin_eq {s t u : Shape} {axes : List (Fin s.rank)} (x : FVec Ideal s .f32) (y : s.Idx → BitVec 32)
    (ix : u.Idx → Ideal .f32) (iy : u.Idx → BitVec 32) (h : s.ReducesTo axes t) (hu : 0 < u.numel) (j : t.Idx)
    (hix : ix (Shape.Idx.first hu) = (⊤ : EReal)) (p : EReal × BitVec 32) (hp : p.1 < ⊤)
    (hmem : ∃ i : s.Idx, h.drop i = j ∧ p = (x i, y i)) (hmin : ∀ i : s.Idx, h.drop i = j → key p ≤ key (x i, y i)) :
    Host.argReduce (reducer_argmin_f32_i32 (F := Ideal)) x y ix iy h hu j = p := by
  rw [Ideal.argReduce_eq_reduce2, Host.reduce2_eq_foldl_fiber, hix]
  obtain ⟨h1, -, h3⟩ := foldl_least _ reducer_eq (Host.argReduceFiber x y h j) ((⊤ : EReal), iy (Shape.Idx.first hu))
  have hle := h3 p ((mem_fiber x y h j p).mpr hmem)
  rcases h1 with h1 | h1
  · exfalso
    rw [h1, key, key, Prod.Lex.toLex_le_toLex] at hle
    rcases hle with hlt | ⟨he, -⟩
    · exact not_top_lt hlt
    · exact hp.ne he.symm
  · obtain ⟨i, hi, e⟩ := (mem_fiber x y h j _).mp h1
    refine key_injective (le_antisymm hle ?_)
    rw [e]
    exact hmin i hi

theorem toInt_code (k : Fin 1024) : (BitVec.ofNat 32 k.val).toInt = (k.val : ℤ) := by
  have h := k.isLt
  rw [BitVec.toInt_ofNat', Int.bmod_def]
  omega

theorem position (i : S8192x1024.Idx) : val_main_call0_v0 (F := Ideal) i = BitVec.ofNat 32 (i 1).val := rfl

theorem start_top : val_main_call0_cst (F := Ideal) (Shape.Idx.first h_S_) = (⊤ : EReal) := lit_top

/-- The greatest score of a row is the negated least distance. -/
theorem max_val (h : Holds x0 x3 Z C) (j : S8192.Idx) :
    val_main_v22 (F := Ideal) x0 x3 j = ((-near (Z (j 0)) C : ℝ) : EReal) := by
  have hs : ∀ i, val_main_v19 (F := Ideal) x0 x3 i = ((-dist (Z (i 0)) C (i 1) : ℝ) : EReal) := by
    intro i
    rw [val_main_v19_apply, val_main_v17_apply, val_main_v18_apply, val_main_cst_2_apply, dist_val h]
    show Ideal.div (-((dist (Z (i 0)) C (i 1) : ℝ) : EReal)) (Ideal.ofBits .f32 0x3F800000#32) = _
    rw [lit_one, ← EReal.coe_neg, div_real _ one_ne_zero, div_one]
  rw [val_main_v22_apply, val_main_v21_apply, val_main_cst_4_apply]
  unfold val_main_v20
  rw [show val_main_v19 (F := Ideal) x0 x3 = fun i => ((-dist (Z (i 0)) C (i 1) : ℝ) : EReal) from funext hs]
  rw [Host.reduce_eq_fold_single _ _ _ _ (by decide)]
  simp only [Ideal.ofBits_def, lit_bot, Ideal.maximumf_def]
  rw [bot_sup_eq]
  show Finset.fold max (Ideal.ofBits .f32 0xFF800000#32) (fun k : Fin 1024 => ((-dist (Z (j 0)) C k : ℝ) : EReal)) Finset.univ = _
  rw [lit_bot, fold_max_neg_coe]
  rfl

/-- The weight the reference exponentiates. -/
theorem wt_val (h : Holds x0 x3 Z C) (i : S8192x1024.Idx) :
    val_main_v26 (F := Ideal) x0 x3 i = ((wt (Z (i 0)) C (i 1) : ℝ) : EReal) := by
  rw [val_main_v26_apply, val_main_v25_apply, val_main_v19_apply, val_main_v17_apply, val_main_v18_apply,
    val_main_cst_2_apply, val_main_v24_apply, val_main_v23_apply, dist_val h, max_val h]
  show Ideal.exp (Ideal.div (-((dist (Z (i 0)) C (i 1) : ℝ) : EReal)) (Ideal.ofBits .f32 0x3F800000#32)
    - ((-near (Z (i 0)) C : ℝ) : EReal)) = _
  rw [lit_one, ← EReal.coe_neg, div_real _ one_ne_zero, div_one, ← EReal.coe_sub, Ideal.exp_coe, neg_sub_neg]
  rfl

theorem tot_val (h : Holds x0 x3 Z C) (i : S8192.Idx) :
    val_main_v27 (F := Ideal) x0 x3 i = ((tot (Z (i 0)) C : ℝ) : EReal) := by
  rw [val_main_v27_apply]
  simp only [wt_val h]
  show Ideal.ofBits .f32 0x00000000#32 + _ = _
  rw [lit_zero, EReal.coe_zero, zero_add, coe_sum]
  rfl

/-- Result 5: the probabilities. -/
theorem prob_val (h : Holds x0 x3 Z C) (i : S8192x1024.Idx) :
    val_main_v30 (F := Ideal) x0 x3 i = ((prob (Z (i 0)) C (i 1) : ℝ) : EReal) := by
  rw [val_main_v30_apply, val_main_v29_apply, val_main_v28_apply, wt_val h, tot_val h, Ideal.hostDivf_def,
    div_real _ (tot_pos _ _).ne']
  rfl

end Cert.ReferenceIdeal.Read

end
-- ==== Proof.RefPick.lean ====
/-
  The code the reference picks for a row: the first one at the least distance.
-/
module

public import proofs.«01_k».proof.Proof.RefDist

@[expose] public section

noncomputable section

namespace Cert.ReferenceIdeal.Read

open Cert.ReferenceIdeal Cert.ReferenceIdeal.Gen Idealize.ShloMosaic Idealize.ShloMosaic.StableHlo Cert.VQ

variable {x0 : (⟨S8x256x32x32, .f32⟩ : BufTy).Contents (Elt Ideal)}
  {x3 : (⟨S1024x256, .f32⟩ : BufTy).Contents (Elt Ideal)} {Z : Fin 8192 → Row} {C : Book}

theorem first_val (h : Holds x0 x3 Z C) (j : S8192.Idx) (k : Fin 1024) (hk : dist (Z (j 0)) C k = near (Z (j 0)) C)
    (hmin : ∀ k', dist (Z (j 0)) C k' = near (Z (j 0)) C → k ≤ k') :
    least_pair (F := Ideal) x0 x3 j = (((dist (Z (j 0)) C k : ℝ) : EReal), BitVec.ofNat 32 k.val) :=
  argmin_eq (val_main_v15 (F := Ideal) x0 x3) (val_main_call0_v0 (F := Ideal)) (val_main_call0_cst (F := Ideal))
    (val_main_call0_c (F := Ideal)) reducesTo_S8192x1024_S8192_d1 h_S_ j start_top
    (((dist (Z (j 0)) C k : ℝ) : EReal), BitVec.ofNat 32 k.val) (EReal.coe_lt_top _)
    ⟨ValueIdx.ix2 (j 0) k, (drop_row _ _).mpr rfl, by
      rw [dist_val h, position]⟩
    (fun i hi => by
      rw [drop_row] at hi
      have hn := near_le (Z (j 0)) C (i 1)
      rw [dist_val h, position, hi, key, key, Prod.Lex.toLex_le_toLex, hk]
      simp only [EReal.coe_lt_coe_iff, EReal.coe_eq_coe_iff]
      rcases lt_or_eq_of_le hn with hlt | he
      · exact Or.inl hlt
      · refine Or.inr ⟨he, ?_⟩
        rw [toInt_code, toInt_code (i 1)]
        exact Int.ofNat_le.mpr (hmin _ he.symm))
/-- The chosen code of a row is the first one at the least distance. -/
theorem pick_val (h : Holds x0 x3 Z C) (j : S8192.Idx) :
    val_main_v16 (F := Ideal) x0 x3 j = BitVec.ofNat 32 (pick (Z (j 0)) C).val := by
  rw [val_main_v16_eq]
  exact congrArg Prod.snd (first_val h j (pick (Z (j 0)) C) (dist_pick _ _) fun _ e => pick_le _ _ e)

end Cert.ReferenceIdeal.Read

end
-- ==== Proof.RefLoss.lean ====
/-
  The reference's five results at real inputs: each is the model's number.
-/
module

public import proofs.«01_k».proof.Proof.RefPick

@[expose] public section

noncomputable section

namespace Cert.ReferenceIdeal.Read

open Cert.ReferenceIdeal Cert.ReferenceIdeal.Gen Idealize.ShloMosaic Idealize.ShloMosaic.StableHlo Cert.VQ

variable {x0 : (⟨S8x256x32x32, .f32⟩ : BufTy).Contents (Elt Ideal)}
  {x3 : (⟨S1024x256, .f32⟩ : BufTy).Contents (Elt Ideal)} {Z : Fin 8192 → Row} {C : Book}

/-! ### The chosen code's row -/

/-- The reference's take reads the row its index names. -/
theorem take_row (x : S1024x256.Idx → Ideal .f32) (idx : IVec S8192x1 32) (y : S8192x256.Idx) (k : Fin 1024)
    (hk : idx (ValueIdx.ix2 (y 0) 0) = BitVec.ofNat 32 k.val) :
    Host.gather gather_S1024x256_S8192x1_S8192x256_1_0_n_n_0_1_1256 x idx y = x (ValueIdx.ix2 k (y 1)) := by
  unfold Host.gather
  congr 1
  funext a
  refine Fin.ext ?_
  show gather_S1024x256_S8192x1_S8192x256_1_0_n_n_0_1_1256.start y idx a
    + gather_S1024x256_S8192x1_S8192x256_1_0_n_n_0_1_1256.batchCoord y a
    + gather_S1024x256_S8192x1_S8192x256_1_0_n_n_0_1_1256.offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S1024x256_S8192x1_S8192x256_1_0_n_n_0_1_1256] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x256_S8192x1_S8192x256_1_0_n_n_0_1_1256.startIndexMap from List.mem_singleton.mpr rfl)]
    have hsi : gather_S1024x256_S8192x1_S8192x256_1_0_n_n_0_1_1256.siIdx y
        ⟨List.idxOf (0 : Fin 2) gather_S1024x256_S8192x1_S8192x256_1_0_n_n_0_1_1256.startIndexMap,
          List.idxOf_lt_length_iff.2 (List.mem_singleton.mpr rfl)⟩ = ValueIdx.ix2 (y 0) 0 := by
      funext b; refine Fin.ext ?_
      match b with
      | ⟨0, _⟩ => rfl
      | ⟨1, _⟩ => rfl
    rw [hsi]
    refine Eq.trans (congrArg (fun b : BitVec 32 => min b.toInt.toNat (1024 - 1)) hk) ?_
    show min (BitVec.ofNat 32 k.val).toInt.toNat (1024 - 1) = k.val
    rw [toInt_code]
    show min k.val (1024 - 1) = k.val
    have := k.isLt
    omega
  · rw [GatherDims.batchCoord_eq_zero _ _ _ (fun h => by simp [gather_S1024x256_S8192x1_S8192x256_1_0_n_n_0_1_1256] at h)]
    unfold GatherDims.start GatherDims.offCoord
    rw [dif_neg (by decide), dif_pos (by decide)]
    simp only [Nat.zero_add]
    rfl

/-- The index the take reads: the chosen code, which is in range. -/
theorem index_val (h : Holds x0 x3 Z C) (i : S8192x1.Idx) :
    val_main_call1_v5 (F := Ideal) x0 x3 i = BitVec.ofNat 32 (pick (Z (i 0)) C).val := by
  have e : ∀ k : Fin 1024, IntOp.cmpi .slt (BitVec.ofNat 32 k.val) 0#32 = 0#1 := by
    intro k
    have ht := toInt_code k
    have h0 : (0#32).toInt = 0 := by decide
    simp only [IntOp.cmpi, BitVec.slt, ht, h0]
    rw [decide_eq_false (by omega)]
    rfl
  rw [val_main_call1_v5_apply, val_main_call1_v4_apply, val_main_call1_v1_apply, val_main_call1_v0_apply,
    val_main_call1_c_apply, pick_val h, e]
  rfl

theorem inRange (h : Holds x0 x3 Z C) (i : S8192x1.Idx) : val_main_call1_v11 (F := Ideal) x0 x3 i = 1#1 := by
  have e1 : ∀ k : Fin 1024, IntOp.cmpi .sge (BitVec.ofNat 32 k.val) 0#32 = 1#1 := by
    intro k
    have ht := toInt_code k
    have h0 : (0#32).toInt = 0 := by decide
    simp only [IntOp.cmpi, BitVec.sle, ht, h0]
    rw [decide_eq_true (by omega)]
    rfl
  have e2 : ∀ k : Fin 1024, IntOp.cmpi .sle (BitVec.ofNat 32 k.val) 1023#32 = 1#1 := by
    intro k
    have ht := toInt_code k
    have := k.isLt
    have h3 : (1023#32).toInt = 1023 := by decide
    simp only [IntOp.cmpi, BitVec.sle, ht, h3]
    rw [decide_eq_true (by omega)]
    rfl
  rw [val_main_call1_v11_apply, val_main_call1_v7_apply, val_main_call1_v10_apply, val_main_call1_v6_apply,
    val_main_call1_c_2_apply, val_main_call1_v9_apply, val_main_call1_v8_apply, val_main_call1_c_1_apply, index_val h, e1, e2]
  rfl

theorem allInRange (h : Holds x0 x3 Z C) (j : S8192.Idx) : val_main_call1_v12 (F := Ideal) x0 x3 j = 1#1 := by
  unfold val_main_call1_v12
  rw [show val_main_call1_v11 (F := Ideal) x0 x3 = fun _ => 1#1 from funext (inRange h)]
  rw [Host.reduce_eq_fold_single _ _ _ _ (by decide)]
  show Finset.fold IntOp.andi (1#1) (fun _ : Fin 1 => 1#1) Finset.univ = _
  decide

/-- The chosen code's row. -/
theorem code_val (h : Holds x0 x3 Z C) (i : S8192x256.Idx) :
    val_main_v31 (F := Ideal) x0 x3 i = ((C (pick (Z (i 0)) C) (i 1) : ℝ) : EReal) := by
  have hg : val_main_call1_v13 (F := Ideal) x0 x3 i = ((C (pick (Z (i 0)) C) (i 1) : ℝ) : EReal) := by
    unfold val_main_call1_v13
    rw [take_row _ _ i (pick (Z (i 0)) C) (index_val h _), h.code]
  rw [val_main_v31_apply, val_main_call1_v14_apply, allInRange h, hg]
  exact ValueIdx.select_one _ _

/-! ### The loss and the moved rows -/

/-- A sum over the entries of an 8192 by 256 array, row by row. -/
theorem sum_rows (f : Fin 8192 → Fin 256 → ℝ) :
    ∑ j : S8192x256.Idx, ((f (j 0) (j 1) : ℝ) : EReal) = ((∑ n, ∑ d, f n d : ℝ) : EReal) := by
  rw [ValueIdx.sum_idx2]
  simp only [← coe_sum]

theorem sqdiff_val (h : Holds x0 x3 Z C) (i : S_.Idx) :
    val_main_v34 (F := Ideal) x0 x3 i = ((∑ n, near (Z n) C : ℝ) : EReal) := by
  rw [val_main_v34_apply]
  simp only [val_main_v33_apply, val_main_v32_apply, code_val h, h.row, Ideal.mulf_def, Ideal.subf_def]
  simp only [← EReal.coe_sub, ← EReal.coe_mul]
  rw [sum_rows fun n d => (C (pick (Z n) C) d - Z n d) * (C (pick (Z n) C) d - Z n d)]
  simp only [← near_eq_sum]
  show Ideal.ofBits .f32 0x00000000#32 + _ = _
  rw [lit_zero, EReal.coe_zero, zero_add]

theorem sqdiff_val' (h : Holds x0 x3 Z C) (i : S_.Idx) :
    val_main_v38 (F := Ideal) x0 x3 i = ((∑ n, near (Z n) C : ℝ) : EReal) := by
  rw [val_main_v38_apply]
  simp only [val_main_v37_apply, val_main_v36_apply, code_val h, h.row, Ideal.mulf_def, Ideal.subf_def]
  simp only [← EReal.coe_sub, ← EReal.coe_mul]
  rw [sum_rows fun n d => (Z n d - C (pick (Z n) C) d) * (Z n d - C (pick (Z n) C) d)]
  have e : ∀ n, ∑ d, (Z n d - C (pick (Z n) C) d) * (Z n d - C (pick (Z n) C) d) = near (Z n) C := fun n => by
    rw [near_eq_sum]; exact Finset.sum_congr rfl fun d _ => by ring
  simp only [e]
  show Ideal.ofBits .f32 0x00000000#32 + _ = _
  rw [lit_zero, EReal.coe_zero, zero_add]

/-- Result 2: the loss. -/
theorem loss_val (h : Holds x0 x3 Z C) (i : S_.Idx) :
    val_main_v41 (F := Ideal) x0 x3 i = ((lossOf Z C : ℝ) : EReal) := by
  rw [val_main_v41_apply, val_main_v35_apply, val_main_v40_apply, val_main_v39_apply, sqdiff_val h, sqdiff_val' h,
    val_main_cst_7_apply, val_main_cst_9_apply, val_main_cst_10_apply]
  simp only [Ideal.addf_def, Ideal.mulf_def, Ideal.hostDivf_def, Ideal.ofBits_def, lit_size, lit_quarter]
  rw [div_real _ (by norm_num), ← EReal.coe_mul, ← EReal.coe_add]
  rfl

/-- The moved rows, before they are laid out as the input was. -/
theorem moved_val (h : Holds x0 x3 Z C) (i : S8192x256.Idx) :
    val_main_v43 (F := Ideal) x0 x3 i = ((moved (Z (i 0)) C (i 1) : ℝ) : EReal) := by
  rw [val_main_v43_apply, val_main_v42_apply, code_val h, h.row, Ideal.addf_def, Ideal.subf_def, ← EReal.coe_sub,
    ← EReal.coe_add]
  rfl

/-! ### The divergence and the entropy -/

theorem sum_vec (f : Fin 4096 → ℝ) : ∑ j : S4096.Idx, ((f (j 0) : ℝ) : EReal) = ((∑ s, f s : ℝ) : EReal) := by
  rw [← coe_sum, ← Equiv.sum_comp (⟨fun s => ValueIdx.ix1 s, fun j => j 0, fun _ => rfl,
    fun j => (ValueIdx.eq_ix1 j).symm⟩ : Fin 4096 ≃ S4096.Idx)]
  rfl

theorem fst_val (h : Holds x0 x3 Z C) (i : S4096x1024.Idx) :
    val_main_v46 (F := Ideal) x0 x3 i = ((prob (fst Z (i 0)) C (i 1) : ℝ) : EReal) := by
  rw [val_main_v46_apply, prob_val h]
  rfl

theorem snd_val (h : Holds x0 x3 Z C) (i : S4096x1024.Idx) :
    val_main_v47 (F := Ideal) x0 x3 i = ((prob (snd Z (i 0)) C (i 1) : ℝ) : EReal) := by
  rw [val_main_v47_apply, prob_val h]
  rfl

theorem mean_val (h : Holds x0 x3 Z C) (i : S4096x1024.Idx) :
    val_main_v50 (F := Ideal) x0 x3 i
      = ((1 / 2 * (prob (fst Z (i 0)) C (i 1) + prob (snd Z (i 0)) C (i 1)) : ℝ) : EReal) := by
  rw [val_main_v50_apply, val_main_v49_apply, val_main_v48_apply, val_main_cst_11_apply, fst_val h, snd_val h]
  simp only [Ideal.addf_def, Ideal.mulf_def, Ideal.ofBits_def, lit_half]
  rw [← EReal.coe_add, ← EReal.coe_mul]

/-- One code's summand of the divergence, over real numbers. -/
theorem js_term (u v w : Row) (C : Book) (k : Fin 1024) :
    ((prob u C k : ℝ) : EReal) * (Ideal.log ((prob u C k : ℝ) : EReal) - Ideal.log ((1 / 2 * (prob v C k + prob w C k) : ℝ) : EReal))
      = ((prob u C k * (logp u C k - logm v w C k) : ℝ) : EReal) := by
  rw [log_real (prob_pos _ _ _), log_real (mean_pos _ _ _ _), log_prob, ← EReal.coe_sub, ← EReal.coe_mul]
  rfl

/-- One code's summand of the entropy, over real numbers. -/
theorem ent_term (u : Row) (C : Book) (k : Fin 1024) :
    ((prob u C k : ℝ) : EReal) * Ideal.log ((prob u C k : ℝ) : EReal) = ((prob u C k * logp u C k : ℝ) : EReal) := by
  rw [log_real (prob_pos _ _ _), log_prob, ← EReal.coe_mul]

theorem jsk_fst (h : Holds x0 x3 Z C) (i : S4096x1024.Idx) :
    val_main_v54 (F := Ideal) x0 x3 i
      = ((prob (fst Z (i 0)) C (i 1) * (logp (fst Z (i 0)) C (i 1) - logm (fst Z (i 0)) (snd Z (i 0)) C (i 1)) : ℝ) : EReal) := by
  rw [val_main_v54_apply, val_main_v53_apply, val_main_v51_apply, val_main_v52_apply, fst_val h, mean_val h]
  simp only [Ideal.subf_def, Ideal.mulf_def, Ideal.hostUnary_log_def]
  exact js_term _ _ _ _ _

theorem jsk_snd (h : Holds x0 x3 Z C) (i : S4096x1024.Idx) :
    val_main_v59 (F := Ideal) x0 x3 i
      = ((prob (snd Z (i 0)) C (i 1) * (logp (snd Z (i 0)) C (i 1) - logm (fst Z (i 0)) (snd Z (i 0)) C (i 1)) : ℝ) : EReal) := by
  rw [val_main_v59_apply, val_main_v58_apply, val_main_v56_apply, val_main_v57_apply, snd_val h, mean_val h]
  simp only [Ideal.subf_def, Ideal.mulf_def, Ideal.hostUnary_log_def]
  exact js_term _ _ _ _ _

theorem js_row (h : Holds x0 x3 Z C) (i : S4096.Idx) :
    val_main_v65 (F := Ideal) x0 x3 i = ((1 / 2 * ∑ k, jsk (fst Z (i 0)) (snd Z (i 0)) C k : ℝ) : EReal) := by
  rw [val_main_v65_apply, val_main_v62_apply, val_main_v64_apply, val_main_v61_apply, val_main_v63_apply,
    val_main_cst_14_apply, val_main_cst_15_apply, val_main_v55_apply, val_main_v60_apply]
  simp only [jsk_fst h, jsk_snd h, val_main_cst_12_apply, val_main_cst_13_apply]
  simp only [Ideal.addf_def, Ideal.mulf_def, Ideal.ofBits_def, lit_half, lit_zero, EReal.coe_zero, zero_add, coe_sum]
  rw [← EReal.coe_mul, ← EReal.coe_mul, ← EReal.coe_add, ← mul_add, ← Finset.sum_add_distrib]
  congr 2
  refine Finset.sum_congr rfl fun k _ => ?_
  show prob (fst Z (i 0)) C k * (logp (fst Z (i 0)) C k - logm (fst Z (i 0)) (snd Z (i 0)) C k)
    + prob (snd Z (i 0)) C k * (logp (snd Z (i 0)) C k - logm (fst Z (i 0)) (snd Z (i 0)) C k) = _
  simp only [jsk, went]
  ring

/-- Result 3: the Jensen–Shannon divergence. -/
theorem jsd_val (h : Holds x0 x3 Z C) (i : S_.Idx) :
    val_main_v67 (F := Ideal) x0 x3 i = ((jsdOf Z C : ℝ) : EReal) := by
  rw [val_main_v67_apply, val_main_v66_apply]
  simp only [js_row h, val_main_cst_16_apply, val_main_cst_17_apply]
  rw [sum_vec fun s => 1 / 2 * ∑ k, jsk (fst Z s) (snd Z s) C k]
  simp only [Ideal.hostDivf_def, Ideal.ofBits_def, lit_4096, lit_zero, EReal.coe_zero, zero_add]
  rw [div_real _ (by norm_num)]
  rfl

theorem ent_fst (h : Holds x0 x3 Z C) (i : S4096.Idx) :
    val_main_v71 (F := Ideal) x0 x3 i = ((-∑ k, prob (fst Z (i 0)) C k * logp (fst Z (i 0)) C k : ℝ) : EReal) := by
  rw [val_main_v71_apply, val_main_v70_apply]
  have e : ∀ k, val_main_v69 (F := Ideal) x0 x3 (idx_main_v70 i k)
      = ((prob (fst Z (i 0)) C k * logp (fst Z (i 0)) C k : ℝ) : EReal) := fun k => by
    rw [val_main_v69_apply, val_main_v68_apply, fst_val h, Ideal.hostUnary_log_def, Ideal.mulf_def]
    exact ent_term _ _ _
  simp only [e, val_main_cst_18_apply, coe_sum, Ideal.ofBits_def, lit_zero, EReal.coe_zero, zero_add]
  exact (EReal.coe_neg _).symm

theorem ent_snd (h : Holds x0 x3 Z C) (i : S4096.Idx) :
    val_main_v75 (F := Ideal) x0 x3 i = ((-∑ k, prob (snd Z (i 0)) C k * logp (snd Z (i 0)) C k : ℝ) : EReal) := by
  rw [val_main_v75_apply, val_main_v74_apply]
  have e : ∀ k, val_main_v73 (F := Ideal) x0 x3 (idx_main_v74 i k)
      = ((prob (snd Z (i 0)) C k * logp (snd Z (i 0)) C k : ℝ) : EReal) := fun k => by
    rw [val_main_v73_apply, val_main_v72_apply, snd_val h, Ideal.hostUnary_log_def, Ideal.mulf_def]
    exact ent_term _ _ _
  simp only [e, val_main_cst_19_apply, coe_sum, Ideal.ofBits_def, lit_zero, EReal.coe_zero, zero_add]
  exact (EReal.coe_neg _).symm

/-- Result 4: the entropy. -/
theorem ent_val (h : Holds x0 x3 Z C) (i : S_.Idx) :
    val_main_v81 (F := Ideal) x0 x3 i = ((entOf Z C : ℝ) : EReal) := by
  rw [val_main_v81_apply, val_main_v80_apply, val_main_v77_apply, val_main_v79_apply, val_main_v76_apply, val_main_v78_apply]
  simp only [ent_fst h, ent_snd h, val_main_cst_20_apply, val_main_cst_21_apply, val_main_cst_22_apply,
    val_main_cst_23_apply, val_main_cst_24_apply]
  rw [sum_vec fun s => -∑ k, prob (fst Z s) C k * logp (fst Z s) C k,
    sum_vec fun s => -∑ k, prob (snd Z s) C k * logp (snd Z s) C k]
  simp only [Ideal.hostDivf_def, Ideal.ofBits_def, Ideal.addf_def, Ideal.mulf_def, lit_4096, lit_zero, lit_half, EReal.coe_zero, zero_add]
  rw [div_real _ (by norm_num), div_real _ (by norm_num), ← EReal.coe_add, ← EReal.coe_mul, entOf]
  congr 1
  rw [← add_div, ← Finset.sum_add_distrib, mul_div_assoc', Finset.mul_sum]
  congr 1
  refine Finset.sum_congr rfl fun s _ => ?_
  simp only [went, Finset.sum_add_distrib]
  ring

end Cert.ReferenceIdeal.Read

end
-- ==== Proof.RefHolds.lean ====
/-
  The reference on real inputs: its rows are the model's, and its first result by image, channel and pixel.
-/
module

public import proofs.«01_k».proof.Proof.RefLoss
public import proofs.«01_k».proof.Proof.Data
public import Idealize.ShloMosaic.Lib.Pipeline.ValueKit

@[expose] public section

set_option maxRecDepth 16384

noncomputable section

namespace Cert.ReferenceIdeal.Read

open Cert.ReferenceIdeal Cert.ReferenceIdeal.Gen Idealize.ShloMosaic.ValueIdx Cert.VQ
open Idealize.ShloMosaic hiding ix1 ix2 ix3 ix4 ix5

variable {x0 : (⟨S8x256x32x32, .f32⟩ : BufTy).Contents (Elt Ideal)} {x3 : (⟨S1024x256, .f32⟩ : BufTy).Contents (Elt Ideal)}

theorem holds (h : VQ.Finite x0 x3) : Holds x0 x3 (rowsOf x0) (bookOf x3) where
  row i := by
    obtain ⟨n, d, rfl⟩ : ∃ (n : Fin 8192) (d : Fin 256), i = ix2 n d := ⟨i 0, i 1, ValueIdx.eq_ix2 i⟩
    have hn := n.isLt
    have hd := d.isLt
    rw [val_main_v1_apply, val_main_v0_apply, h.input]
    unfold rowsOf
    refine congrArg (fun j => (((x0 j).toReal : ℝ) : EReal)) ((ValueIdx.eq_ix4 _).trans (congr (congr (congr (congrArg _ (Fin.ext ?_)) (Fin.ext ?_)) (Fin.ext ?_)) (Fin.ext ?_)))
    · show (n.val * 256 + d.val) / 262144 = n.val / 1024
      omega
    · show (n.val * 256 + d.val) % 256 = d.val
      omega
    · show (n.val * 256 + d.val) / 8192 % 32 = n.val % 1024 / 32
      omega
    · show (n.val * 256 + d.val) / 256 % 32 = n.val % 32
      omega
  code i := by
    rw [h.code]
    exact congrArg (fun j => (((x3 j).toReal : ℝ) : EReal)) (ValueIdx.eq_ix2 i)

theorem out_val (h : VQ.Finite x0 x3) (b : Fin 8) (d : Fin 256) (y x : Fin 32) :
    val_main_v45 (F := Ideal) x0 x3 (ix4 b d y x)
      = ((moved (rowsOf x0 ⟨b.val * 1024 + y.val * 32 + x.val, by omega⟩) (bookOf x3) d : ℝ) : EReal) := by
  have hb := b.isLt
  have hd := d.isLt
  have hy := y.isLt
  have hx := x.isLt
  rw [val_main_v45_apply, val_main_v44_apply, moved_val (holds h)]
  refine congrArg _ (congr (congrArg (fun n => moved (rowsOf x0 n) (bookOf x3)) (Fin.ext ?_)) (Fin.ext ?_))
  · show (((b.val * 32 + y.val) * 32 + x.val) * 256 + d.val) / 256 = b.val * 1024 + y.val * 32 + x.val
    omega
  · show (((b.val * 32 + y.val) * 32 + x.val) * 256 + d.val) % 256 = d.val
    omega

end Cert.ReferenceIdeal.Read

end
-- ==== Proof.RefRun.lean ====
/-
  The reference as the list of its host operations, and its run: every fair execution ends with each result buffer
  at its last stage (`val_<buffer>`, RefVal.lean) of the arguments, and the arguments unchanged.
-/
module

public import proofs.«01_k».proof.Proof.Gen.ReferenceIdeal
public import proofs.«01_k».proof.Proof.RefVal
public import Idealize.ShloMosaic.Lib.StableHlo.Run

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- @main's operations, in order. -/
abbrev ops : List (HloOp τ sig (Elt F)) :=
  [ unary main_arg0 main_v0 ((transpose S8x32x32x256 [0, 2, 3, 1] · transposes_S8x256x32x32_S8x32x32x256_0_2_3_1) : (⟨S8x256x32x32, .f32⟩ : BufTy).Contents (Elt F) → (⟨S8x32x32x256, .f32⟩ : BufTy).Contents (Elt F)),
    reshape main_v0 main_v1 (rfl : (.f32 : EltTy) = .f32) shapeCasts_S8x32x32x256_S8192x256,
    binary main_v1 main_v1 main_v2 (mulf : (⟨S8192x256, .f32⟩ : BufTy).Contents (Elt F) → (⟨S8192x256, .f32⟩ : BufTy).Contents (Elt F) → (⟨S8192x256, .f32⟩ : BufTy).Contents (Elt F)),
    nullary main_cst (constant S_ .f32 0x00000000#32),
    binary main_v2 main_cst main_v3 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v3 main_v4 (broadcastInDim S8192x1 ![0] bcast_S8192_S8192x1_0 : (⟨S8192, .f32⟩ : BufTy).Contents (Elt F) → (⟨S8192x1, .f32⟩ : BufTy).Contents (Elt F)),
    binary main_arg3 main_arg3 main_v5 (mulf : (⟨S1024x256, .f32⟩ : BufTy).Contents (Elt F) → (⟨S1024x256, .f32⟩ : BufTy).Contents (Elt F) → (⟨S1024x256, .f32⟩ : BufTy).Contents (Elt F)),
    nullary main_cst_0 (constant S_ .f32 0x00000000#32),
    binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S8192x1024 ![0, 1] bcast_S8192x1_S8192x1024_0_1 : (⟨S8192x1, .f32⟩ : BufTy).Contents (Elt F) → (⟨S8192x1024, .f32⟩ : BufTy).Contents (Elt F)),
    unary main_v7 main_v9 (broadcastInDim S8192x1024 ![0, 1] bcast_S1x1024_S8192x1024_0_1 : (⟨S1x1024, .f32⟩ : BufTy).Contents (Elt F) → (⟨S8192x1024, .f32⟩ : BufTy).Contents (Elt F)),
    binary main_v8 main_v9 main_v10 (addf : (⟨S8192x1024, .f32⟩ : BufTy).Contents (Elt F) → (⟨S8192x1024, .f32⟩ : BufTy).Contents (Elt F) → (⟨S8192x1024, .f32⟩ : BufTy).Contents (Elt F)),
    unary main_arg3 main_v11 ((transpose S256x1024 [1, 0] · transposes_S1024x256_S256x1024_1_0) : (⟨S1024x256, .f32⟩ : BufTy).Contents (Elt F) → (⟨S256x1024, .f32⟩ : BufTy).Contents (Elt F)),
    binary main_v1 main_v11 main_v12 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    nullary main_cst_1 (constant S_ .f32 0x40000000#32),
    unary main_cst_1 main_v13 (broadcastInDim S8192x1024 ![] bcast_S_S8192x1024 : (⟨S_, .f32⟩ : BufTy).Contents (Elt F) → (⟨S8192x1024, .f32⟩ : BufTy).Contents (Elt F)),
    binary main_v13 main_v12 main_v14 (mulf : (⟨S8192x1024, .f32⟩ : BufTy).Contents (Elt F) → (⟨S8192x1024, .f32⟩ : BufTy).Contents (Elt F) → (⟨S8192x1024, .f32⟩ : BufTy).Contents (Elt F)),
    binary main_v10 main_v14 main_v15 (subf : (⟨S8192x1024, .f32⟩ : BufTy).Contents (Elt F) → (⟨S8192x1024, .f32⟩ : BufTy).Contents (Elt F) → (⟨S8192x1024, .f32⟩ : BufTy).Contents (Elt F)),
    TRef.nullary (TRef.of (T := ⟨S8192x1024, .i32⟩) main_call0_v0) (iotaInDim S8192x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S8192x1024, .f32⟩) main_v15) (TRef.of (T := ⟨S8192x1024, .i32⟩) main_call0_v0) (TRef.of (T := ⟨S_, .f32⟩) main_call0_cst) (TRef.of (T := ⟨S_, .i32⟩) main_call0_c) (TRef.of (T := ⟨S8192, .f32⟩) main_call0_v1_0) (fun x y u v j => (Host.argReduce reducer_argmin_f32_i32 x y u v reducesTo_S8192x1024_S8192_d1 h_S_ j).1),
    TRef.quaternary (TRef.of (T := ⟨S8192x1024, .f32⟩) main_v15) (TRef.of (T := ⟨S8192x1024, .i32⟩) main_call0_v0) (TRef.of (T := ⟨S_, .f32⟩) main_call0_cst) (TRef.of (T := ⟨S_, .i32⟩) main_call0_c) (TRef.of (T := ⟨S8192, .i32⟩) main_v16) (fun x y u v j => (Host.argReduce reducer_argmin_f32_i32 x y u v reducesTo_S8192x1024_S8192_d1 h_S_ j).2),
    unary main_v15 main_v17 (Host.negf : (⟨S8192x1024, .f32⟩ : BufTy).Contents (Elt F) → (⟨S8192x1024, .f32⟩ : BufTy).Contents (Elt F)),
    nullary main_cst_2 (constant S_ .f32 0x3F800000#32),
    unary main_cst_2 main_v18 (broadcastInDim S8192x1024 ![] bcast_S_S8192x1024 : (⟨S_, .f32⟩ : BufTy).Contents (Elt F) → (⟨S8192x1024, .f32⟩ : BufTy).Contents (Elt F)),
    binary main_v17 main_v18 main_v19 (Host.divf : (⟨S8192x1024, .f32⟩ : BufTy).Contents (Elt F) → (⟨S8192x1024, .f32⟩ : BufTy).Contents (Elt F) → (⟨S8192x1024, .f32⟩ : BufTy).Contents (Elt F)),
    nullary main_cst_3 (constant S_ .f32 0xFF800000#32),
    binary main_v19 main_cst_3 main_v20 ((fun x v => Host.reduce FloatOps.maximumf x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    nullary main_cst_4 (constant S_ .f32 0xFF800000#32),
    unary main_cst_4 main_v21 (broadcastInDim S8192 ![] bcast_S_S8192 : (⟨S_, .f32⟩ : BufTy).Contents (Elt F) → (⟨S8192, .f32⟩ : BufTy).Contents (Elt F)),
    binary main_v21 main_v20 main_v22 (maximumf : (⟨S8192, .f32⟩ : BufTy).Contents (Elt F) → (⟨S8192, .f32⟩ : BufTy).Contents (Elt F) → (⟨S8192, .f32⟩ : BufTy).Contents (Elt F)),
    unary main_v22 main_v23 (broadcastInDim S8192x1 ![0] bcast_S8192_S8192x1_0 : (⟨S8192, .f32⟩ : BufTy).Contents (Elt F) → (⟨S8192x1, .f32⟩ : BufTy).Contents (Elt F)),
    unary main_v23 main_v24 (broadcastInDim S8192x1024 ![0, 1] bcast_S8192x1_S8192x1024_0_1 : (⟨S8192x1, .f32⟩ : BufTy).Contents (Elt F) → (⟨S8192x1024, .f32⟩ : BufTy).Contents (Elt F)),
    binary main_v19 main_v24 main_v25 (subf : (⟨S8192x1024, .f32⟩ : BufTy).Contents (Elt F) → (⟨S8192x1024, .f32⟩ : BufTy).Contents (Elt F) → (⟨S8192x1024, .f32⟩ : BufTy).Contents (Elt F)),
    unary main_v25 main_v26 (Host.exp : (⟨S8192x1024, .f32⟩ : BufTy).Contents (Elt F) → (⟨S8192x1024, .f32⟩ : BufTy).Contents (Elt F)),
    nullary main_cst_5 (constant S_ .f32 0x00000000#32),
    binary main_v26 main_cst_5 main_v27 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v27 main_v28 (broadcastInDim S8192x1 ![0] bcast_S8192_S8192x1_0 : (⟨S8192, .f32⟩ : BufTy).Contents (Elt F) → (⟨S8192x1, .f32⟩ : BufTy).Contents (Elt F)),
    unary main_v28 main_v29 (broadcastInDim S8192x1024 ![0, 1] bcast_S8192x1_S8192x1024_0_1 : (⟨S8192x1, .f32⟩ : BufTy).Contents (Elt F) → (⟨S8192x1024, .f32⟩ : BufTy).Contents (Elt F)),
    binary main_v26 main_v29 main_v30 (Host.divf : (⟨S8192x1024, .f32⟩ : BufTy).Contents (Elt F) → (⟨S8192x1024, .f32⟩ : BufTy).Contents (Elt F) → (⟨S8192x1024, .f32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8192, .i32⟩) main_call1_v0) (broadcastInDim S8192 ![] bcast_S_S8192),
    TRef.binary (TRef.of (T := ⟨S8192, .i32⟩) main_v16) (TRef.of (T := ⟨S8192, .i32⟩) main_call1_v0) (TRef.of (T := ⟨S8192, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S8192, .i32⟩) main_call1_v2) (broadcastInDim S8192 ![] bcast_S_S8192),
    TRef.binary (TRef.of (T := ⟨S8192, .i32⟩) main_v16) (TRef.of (T := ⟨S8192, .i32⟩) main_call1_v2) (TRef.of (T := ⟨S8192, .i32⟩) main_call1_v3) addi,
    TRef.ternary (TRef.of (T := ⟨S8192, .i1⟩) main_call1_v1) (TRef.of (T := ⟨S8192, .i32⟩) main_call1_v3) (TRef.of (T := ⟨S8192, .i32⟩) main_v16) (TRef.of (T := ⟨S8192, .i32⟩) main_call1_v4) select,
    TRef.unary (TRef.of (T := ⟨S8192, .i32⟩) main_call1_v4) (TRef.of (T := ⟨S8192x1, .i32⟩) main_call1_v5) (broadcastInDim S8192x1 ![0] bcast_S8192_S8192x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S8192x1, .i32⟩) main_call1_v6) (broadcastInDim S8192x1 ![] bcast_S_S8192x1),
    TRef.binary (TRef.of (T := ⟨S8192x1, .i32⟩) main_call1_v5) (TRef.of (T := ⟨S8192x1, .i32⟩) main_call1_v6) (TRef.of (T := ⟨S8192x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S8192x1, .i32⟩) main_call1_v9) (broadcastInDim S8192x1 ![0, 1] bcast_S1x1_S8192x1_0_1),
    TRef.binary (TRef.of (T := ⟨S8192x1, .i32⟩) main_call1_v5) (TRef.of (T := ⟨S8192x1, .i32⟩) main_call1_v9) (TRef.of (T := ⟨S8192x1, .i1⟩) main_call1_v10) (cmpi .sle),
    TRef.binary (TRef.of (T := ⟨S8192x1, .i1⟩) main_call1_v7) (TRef.of (T := ⟨S8192x1, .i1⟩) main_call1_v10) (TRef.of (T := ⟨S8192x1, .i1⟩) main_call1_v11) andi,
    TRef.nullary (TRef.of (T := ⟨S_, .i1⟩) main_call1_c_3) (constantI S_ 1 1#1),
    TRef.binary (TRef.of (T := ⟨S8192x1, .i1⟩) main_call1_v11) (TRef.of (T := ⟨S_, .i1⟩) main_call1_c_3) (TRef.of (T := ⟨S8192, .i1⟩) main_call1_v12) (fun x v => Host.reduce IntOp.andi x v reducesTo_S8192x1_S8192_d1 h_S_),
    TRef.binary (TRef.of (T := ⟨S1024x256, .f32⟩) main_arg3) (TRef.of (T := ⟨S8192x1, .i32⟩) main_call1_v5) (TRef.of (T := ⟨S8192x256, .f32⟩) main_call1_v13) (fun x i => Host.gather gather_S1024x256_S8192x1_S8192x256_1_0_n_n_0_1_1256 x i),
    TRef.unary (TRef.of (T := ⟨S8192, .i1⟩) main_call1_v12) (TRef.of (T := ⟨S8192x256, .i1⟩) main_call1_v14) (broadcastInDim S8192x256 ![0] bcast_S8192_S8192x256_0),
    TRef.nullary (TRef.of (T := ⟨S_, .f32⟩) main_call1_cst) (constant S_ .f32 0x7FC00000#32),
    TRef.unary (TRef.of (T := ⟨S_, .f32⟩) main_call1_cst) (TRef.of (T := ⟨S8192x256, .f32⟩) main_call1_v15) (broadcastInDim S8192x256 ![] bcast_S_S8192x256),
    TRef.ternary (TRef.of (T := ⟨S8192x256, .i1⟩) main_call1_v14) (TRef.of (T := ⟨S8192x256, .f32⟩) main_call1_v13) (TRef.of (T := ⟨S8192x256, .f32⟩) main_call1_v15) (TRef.of (T := ⟨S8192x256, .f32⟩) main_v31) select,
    binary main_v31 main_v1 main_v32 (subf : (⟨S8192x256, .f32⟩ : BufTy).Contents (Elt F) → (⟨S8192x256, .f32⟩ : BufTy).Contents (Elt F) → (⟨S8192x256, .f32⟩ : BufTy).Contents (Elt F)),
    binary main_v32 main_v32 main_v33 (mulf : (⟨S8192x256, .f32⟩ : BufTy).Contents (Elt F) → (⟨S8192x256, .f32⟩ : BufTy).Contents (Elt F) → (⟨S8192x256, .f32⟩ : BufTy).Contents (Elt F)),
    nullary main_cst_6 (constant S_ .f32 0x00000000#32),
    binary main_v33 main_cst_6 main_v34 ((fun x v => Host.reduceAdd x v reducesTo_S8192x256_S_d0_1 h_S_) : (⟨S8192x256, .f32⟩ : BufTy).Contents (Elt F) → (⟨S_, .f32⟩ : BufTy).Contents (Elt F) → (⟨S_, .f32⟩ : BufTy).Contents (Elt F)),
    nullary main_cst_7 (constant S_ .f32 0x4A000000#32),
    binary main_v34 main_cst_7 main_v35 (Host.divf : (⟨S_, .f32⟩ : BufTy).Contents (Elt F) → (⟨S_, .f32⟩ : BufTy).Contents (Elt F) → (⟨S_, .f32⟩ : BufTy).Contents (Elt F)),
    binary main_v1 main_v31 main_v36 (subf : (⟨S8192x256, .f32⟩ : BufTy).Contents (Elt F) → (⟨S8192x256, .f32⟩ : BufTy).Contents (Elt F) → (⟨S8192x256, .f32⟩ : BufTy).Contents (Elt F)),
    binary main_v36 main_v36 main_v37 (mulf : (⟨S8192x256, .f32⟩ : BufTy).Contents (Elt F) → (⟨S8192x256, .f32⟩ : BufTy).Contents (Elt F) → (⟨S8192x256, .f32⟩ : BufTy).Contents (Elt F)),
    nullary main_cst_8 (constant S_ .f32 0x00000000#32),
    binary main_v37 main_cst_8 main_v38 ((fun x v => Host.reduceAdd x v reducesTo_S8192x256_S_d0_1 h_S_) : (⟨S8192x256, .f32⟩ : BufTy).Contents (Elt F) → (⟨S_, .f32⟩ : BufTy).Contents (Elt F) → (⟨S_, .f32⟩ : BufTy).Contents (Elt F)),
    nullary main_cst_9 (constant S_ .f32 0x4A000000#32),
    binary main_v38 main_cst_9 main_v39 (Host.divf : (⟨S_, .f32⟩ : BufTy).Contents (Elt F) → (⟨S_, .f32⟩ : BufTy).Contents (Elt F) → (⟨S_, .f32⟩ : BufTy).Contents (Elt F)),
    nullary main_cst_10 (constant S_ .f32 0x3E800000#32),
    binary main_cst_10 main_v39 main_v40 (mulf : (⟨S_, .f32⟩ : BufTy).Contents (Elt F) → (⟨S_, .f32⟩ : BufTy).Contents (Elt F) → (⟨S_, .f32⟩ : BufTy).Contents (Elt F)),
    binary main_v35 main_v40 main_v41 (addf : (⟨S_, .f32⟩ : BufTy).Contents (Elt F) → (⟨S_, .f32⟩ : BufTy).Contents (Elt F) → (⟨S_, .f32⟩ : BufTy).Contents (Elt F)),
    binary main_v31 main_v1 main_v42 (subf : (⟨S8192x256, .f32⟩ : BufTy).Contents (Elt F) → (⟨S8192x256, .f32⟩ : BufTy).Contents (Elt F) → (⟨S8192x256, .f32⟩ : BufTy).Contents (Elt F)),
    binary main_v1 main_v42 main_v43 (addf : (⟨S8192x256, .f32⟩ : BufTy).Contents (Elt F) → (⟨S8192x256, .f32⟩ : BufTy).Contents (Elt F) → (⟨S8192x256, .f32⟩ : BufTy).Contents (Elt F)),
    reshape main_v43 main_v44 (rfl : (.f32 : EltTy) = .f32) shapeCasts_S8192x256_S8x32x32x256,
    unary main_v44 main_v45 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)),
    unary main_v30 main_v46 ((extractStridedSlice S4096x1024 ![0, 0] · slices_S8192x1024_S4096x1024_0_0) : (⟨S8192x1024, .f32⟩ : BufTy).Contents (Elt F) → (⟨S4096x1024, .f32⟩ : BufTy).Contents (Elt F)),
    unary main_v30 main_v47 ((extractStridedSlice S4096x1024 ![4096, 0] · slices_S8192x1024_S4096x1024_4096_0) : (⟨S8192x1024, .f32⟩ : BufTy).Contents (Elt F) → (⟨S4096x1024, .f32⟩ : BufTy).Contents (Elt F)),
    binary main_v46 main_v47 main_v48 (addf : (⟨S4096x1024, .f32⟩ : BufTy).Contents (Elt F) → (⟨S4096x1024, .f32⟩ : BufTy).Contents (Elt F) → (⟨S4096x1024, .f32⟩ : BufTy).Contents (Elt F)),
    nullary main_cst_11 (constant S_ .f32 0x3F000000#32),
    unary main_cst_11 main_v49 (broadcastInDim S4096x1024 ![] bcast_S_S4096x1024 : (⟨S_, .f32⟩ : BufTy).Contents (Elt F) → (⟨S4096x1024, .f32⟩ : BufTy).Contents (Elt F)),
    binary main_v49 main_v48 main_v50 (mulf : (⟨S4096x1024, .f32⟩ : BufTy).Contents (Elt F) → (⟨S4096x1024, .f32⟩ : BufTy).Contents (Elt F) → (⟨S4096x1024, .f32⟩ : BufTy).Contents (Elt F)),
    unary main_v46 main_v51 (Host.log : (⟨S4096x1024, .f32⟩ : BufTy).Contents (Elt F) → (⟨S4096x1024, .f32⟩ : BufTy).Contents (Elt F)),
    unary main_v50 main_v52 (Host.log : (⟨S4096x1024, .f32⟩ : BufTy).Contents (Elt F) → (⟨S4096x1024, .f32⟩ : BufTy).Contents (Elt F)),
    binary main_v51 main_v52 main_v53 (subf : (⟨S4096x1024, .f32⟩ : BufTy).Contents (Elt F) → (⟨S4096x1024, .f32⟩ : BufTy).Contents (Elt F) → (⟨S4096x1024, .f32⟩ : BufTy).Contents (Elt F)),
    binary main_v46 main_v53 main_v54 (mulf : (⟨S4096x1024, .f32⟩ : BufTy).Contents (Elt F) → (⟨S4096x1024, .f32⟩ : BufTy).Contents (Elt F) → (⟨S4096x1024, .f32⟩ : BufTy).Contents (Elt F)),
    nullary main_cst_12 (constant S_ .f32 0x00000000#32),
    binary main_v54 main_cst_12 main_v55 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v47 main_v56 (Host.log : (⟨S4096x1024, .f32⟩ : BufTy).Contents (Elt F) → (⟨S4096x1024, .f32⟩ : BufTy).Contents (Elt F)),
    unary main_v50 main_v57 (Host.log : (⟨S4096x1024, .f32⟩ : BufTy).Contents (Elt F) → (⟨S4096x1024, .f32⟩ : BufTy).Contents (Elt F)),
    binary main_v56 main_v57 main_v58 (subf : (⟨S4096x1024, .f32⟩ : BufTy).Contents (Elt F) → (⟨S4096x1024, .f32⟩ : BufTy).Contents (Elt F) → (⟨S4096x1024, .f32⟩ : BufTy).Contents (Elt F)),
    binary main_v47 main_v58 main_v59 (mulf : (⟨S4096x1024, .f32⟩ : BufTy).Contents (Elt F) → (⟨S4096x1024, .f32⟩ : BufTy).Contents (Elt F) → (⟨S4096x1024, .f32⟩ : BufTy).Contents (Elt F)),
    nullary main_cst_13 (constant S_ .f32 0x00000000#32),
    binary main_v59 main_cst_13 main_v60 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    nullary main_cst_14 (constant S_ .f32 0x3F000000#32),
    unary main_cst_14 main_v61 (broadcastInDim S4096 ![] bcast_S_S4096 : (⟨S_, .f32⟩ : BufTy).Contents (Elt F) → (⟨S4096, .f32⟩ : BufTy).Contents (Elt F)),
    binary main_v61 main_v55 main_v62 (mulf : (⟨S4096, .f32⟩ : BufTy).Contents (Elt F) → (⟨S4096, .f32⟩ : BufTy).Contents (Elt F) → (⟨S4096, .f32⟩ : BufTy).Contents (Elt F)),
    nullary main_cst_15 (constant S_ .f32 0x3F000000#32),
    unary main_cst_15 main_v63 (broadcastInDim S4096 ![] bcast_S_S4096 : (⟨S_, .f32⟩ : BufTy).Contents (Elt F) → (⟨S4096, .f32⟩ : BufTy).Contents (Elt F)),
    binary main_v63 main_v60 main_v64 (mulf : (⟨S4096, .f32⟩ : BufTy).Contents (Elt F) → (⟨S4096, .f32⟩ : BufTy).Contents (Elt F) → (⟨S4096, .f32⟩ : BufTy).Contents (Elt F)),
    binary main_v62 main_v64 main_v65 (addf : (⟨S4096, .f32⟩ : BufTy).Contents (Elt F) → (⟨S4096, .f32⟩ : BufTy).Contents (Elt F) → (⟨S4096, .f32⟩ : BufTy).Contents (Elt F)),
    nullary main_cst_16 (constant S_ .f32 0x00000000#32),
    binary main_v65 main_cst_16 main_v66 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_17 (constant S_ .f32 0x45800000#32),
    binary main_v66 main_cst_17 main_v67 (Host.divf : (⟨S_, .f32⟩ : BufTy).Contents (Elt F) → (⟨S_, .f32⟩ : BufTy).Contents (Elt F) → (⟨S_, .f32⟩ : BufTy).Contents (Elt F)),
    unary main_v46 main_v68 (Host.log : (⟨S4096x1024, .f32⟩ : BufTy).Contents (Elt F) → (⟨S4096x1024, .f32⟩ : BufTy).Contents (Elt F)),
    binary main_v46 main_v68 main_v69 (mulf : (⟨S4096x1024, .f32⟩ : BufTy).Contents (Elt F) → (⟨S4096x1024, .f32⟩ : BufTy).Contents (Elt F) → (⟨S4096x1024, .f32⟩ : BufTy).Contents (Elt F)),
    nullary main_cst_18 (constant S_ .f32 0x00000000#32),
    binary main_v69 main_cst_18 main_v70 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v70 main_v71 (Host.negf : (⟨S4096, .f32⟩ : BufTy).Contents (Elt F) → (⟨S4096, .f32⟩ : BufTy).Contents (Elt F)),
    unary main_v47 main_v72 (Host.log : (⟨S4096x1024, .f32⟩ : BufTy).Contents (Elt F) → (⟨S4096x1024, .f32⟩ : BufTy).Contents (Elt F)),
    binary main_v47 main_v72 main_v73 (mulf : (⟨S4096x1024, .f32⟩ : BufTy).Contents (Elt F) → (⟨S4096x1024, .f32⟩ : BufTy).Contents (Elt F) → (⟨S4096x1024, .f32⟩ : BufTy).Contents (Elt F)),
    nullary main_cst_19 (constant S_ .f32 0x00000000#32),
    binary main_v73 main_cst_19 main_v74 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v74 main_v75 (Host.negf : (⟨S4096, .f32⟩ : BufTy).Contents (Elt F) → (⟨S4096, .f32⟩ : BufTy).Contents (Elt F)),
    nullary main_cst_20 (constant S_ .f32 0x00000000#32),
    binary main_v71 main_cst_20 main_v76 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_21 (constant S_ .f32 0x45800000#32),
    binary main_v76 main_cst_21 main_v77 (Host.divf : (⟨S_, .f32⟩ : BufTy).Contents (Elt F) → (⟨S_, .f32⟩ : BufTy).Contents (Elt F) → (⟨S_, .f32⟩ : BufTy).Contents (Elt F)),
    nullary main_cst_22 (constant S_ .f32 0x00000000#32),
    binary main_v75 main_cst_22 main_v78 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_23 (constant S_ .f32 0x45800000#32),
    binary main_v78 main_cst_23 main_v79 (Host.divf : (⟨S_, .f32⟩ : BufTy).Contents (Elt F) → (⟨S_, .f32⟩ : BufTy).Contents (Elt F) → (⟨S_, .f32⟩ : BufTy).Contents (Elt F)),
    binary main_v77 main_v79 main_v80 (addf : (⟨S_, .f32⟩ : BufTy).Contents (Elt F) → (⟨S_, .f32⟩ : BufTy).Contents (Elt F) → (⟨S_, .f32⟩ : BufTy).Contents (Elt F)),
    nullary main_cst_24 (constant S_ .f32 0x3F000000#32),
    binary main_cst_24 main_v80 main_v81 (mulf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., reshape_bufs_sub .., unary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., unary_bufs_sub .., binary_bufs_sub .., nullary_bufs_sub .., binary_bufs_sub .., unary_bufs_sub .., unary_bufs_sub .., binary_bufs_sub .., nullary_bufs_sub .., binary_bufs_sub .., unary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub ..⟩

set_option maxRecDepth 8192 in
set_option maxHeartbeats 16000000 in
/-- What the operations leave in `main_v45`. -/
theorem after_main_v45 (V : Valuation τ sig (Elt F)) :
    after ops V (Proc.devRef .tc main_v45) = val_main_v45 (V (Proc.devRef .tc main_arg0)) (V (Proc.devRef .tc main_arg3)) := by
  simp only [ops, TRef.binary, TRef.nullary, TRef.quaternary, TRef.reshape, TRef.ternary, TRef.unary, TRef.toBuf, TRef.ofBuf, cast_eq]
  after_results_simp
  rfl

set_option maxRecDepth 8192 in
set_option maxHeartbeats 16000000 in
/-- What the operations leave in `main_v41`. -/
theorem after_main_v41 (V : Valuation τ sig (Elt F)) :
    after ops V (Proc.devRef .tc main_v41) = val_main_v41 (V (Proc.devRef .tc main_arg0)) (V (Proc.devRef .tc main_arg3)) := by
  simp only [ops, TRef.binary, TRef.nullary, TRef.quaternary, TRef.reshape, TRef.ternary, TRef.unary, TRef.toBuf, TRef.ofBuf, cast_eq]
  after_results_simp
  rfl

set_option maxRecDepth 8192 in
set_option maxHeartbeats 16000000 in
/-- What the operations leave in `main_v67`. -/
theorem after_main_v67 (V : Valuation τ sig (Elt F)) :
    after ops V (Proc.devRef .tc main_v67) = val_main_v67 (V (Proc.devRef .tc main_arg0)) (V (Proc.devRef .tc main_arg3)) := by
  simp only [ops, TRef.binary, TRef.nullary, TRef.quaternary, TRef.reshape, TRef.ternary, TRef.unary, TRef.toBuf, TRef.ofBuf, cast_eq]
  after_results_simp
  rfl

set_option maxRecDepth 8192 in
set_option maxHeartbeats 16000000 in
/-- What the operations leave in `main_v81`. -/
theorem after_main_v81 (V : Valuation τ sig (Elt F)) :
    after ops V (Proc.devRef .tc main_v81) = val_main_v81 (V (Proc.devRef .tc main_arg0)) (V (Proc.devRef .tc main_arg3)) := by
  simp only [ops, TRef.binary, TRef.nullary, TRef.quaternary, TRef.reshape, TRef.ternary, TRef.unary, TRef.toBuf, TRef.ofBuf, cast_eq]
  after_results_simp
  rfl

set_option maxRecDepth 8192 in
set_option maxHeartbeats 16000000 in
/-- What the operations leave in `main_v30`. -/
theorem after_main_v30 (V : Valuation τ sig (Elt F)) :
    after ops V (Proc.devRef .tc main_v30) = val_main_v30 (V (Proc.devRef .tc main_arg0)) (V (Proc.devRef .tc main_arg3)) := by
  simp only [ops, TRef.binary, TRef.nullary, TRef.quaternary, TRef.reshape, TRef.ternary, TRef.unary, TRef.toBuf, TRef.ofBuf, cast_eq]
  after_results_simp
  rfl

set_option maxRecDepth 8192 in
set_option maxHeartbeats 16000000 in
theorem after_main_arg0 (V : Valuation τ sig (Elt F)) :
    after ops V (Proc.devRef .tc main_arg0) = V (Proc.devRef .tc main_arg0) := by
  simp only [ops, TRef.binary, TRef.nullary, TRef.quaternary, TRef.reshape, TRef.ternary, TRef.unary, TRef.toBuf, TRef.ofBuf, cast_eq]
  after_results_simp

set_option maxRecDepth 8192 in
set_option maxHeartbeats 16000000 in
theorem after_main_arg1 (V : Valuation τ sig (Elt F)) :
    after ops V (Proc.devRef .tc main_arg1) = V (Proc.devRef .tc main_arg1) := by
  simp only [ops, TRef.binary, TRef.nullary, TRef.quaternary, TRef.reshape, TRef.ternary, TRef.unary, TRef.toBuf, TRef.ofBuf, cast_eq]
  after_results_simp

set_option maxRecDepth 8192 in
set_option maxHeartbeats 16000000 in
theorem after_main_arg2 (V : Valuation τ sig (Elt F)) :
    after ops V (Proc.devRef .tc main_arg2) = V (Proc.devRef .tc main_arg2) := by
  simp only [ops, TRef.binary, TRef.nullary, TRef.quaternary, TRef.reshape, TRef.ternary, TRef.unary, TRef.toBuf, TRef.ofBuf, cast_eq]
  after_results_simp

set_option maxRecDepth 8192 in
set_option maxHeartbeats 16000000 in
theorem after_main_arg3 (V : Valuation τ sig (Elt F)) :
    after ops V (Proc.devRef .tc main_arg3) = V (Proc.devRef .tc main_arg3) := by
  simp only [ops, TRef.binary, TRef.nullary, TRef.quaternary, TRef.reshape, TRef.ternary, TRef.unary, TRef.toBuf, TRef.ofBuf, cast_eq]
  after_results_simp

/-- Every fair execution ends, each result at its last stage of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = val_main_v45 (m ((c.tc : Thread nD τ).loc main_arg0)) (m ((c.tc : Thread nD τ).loc main_arg3))
      ∧ r.2.mem ((c.tc : Thread nD τ).loc main_v41) = val_main_v41 (m ((c.tc : Thread nD τ).loc main_arg0)) (m ((c.tc : Thread nD τ).loc main_arg3))
      ∧ r.2.mem ((c.tc : Thread nD τ).loc main_v67) = val_main_v67 (m ((c.tc : Thread nD τ).loc main_arg0)) (m ((c.tc : Thread nD τ).loc main_arg3))
      ∧ r.2.mem ((c.tc : Thread nD τ).loc main_v81) = val_main_v81 (m ((c.tc : Thread nD τ).loc main_arg0)) (m ((c.tc : Thread nD τ).loc main_arg3))
      ∧ r.2.mem ((c.tc : Thread nD τ).loc main_v30) = val_main_v30 (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v45).trans (after_main_v45 _), (h c main_v41).trans (after_main_v41 _), (h c main_v67).trans (after_main_v67 _), (h c main_v81).trans (after_main_v81 _), (h c main_v30).trans (after_main_v30 _), (h c main_arg0).trans (after_main_arg0 _), (h c main_arg1).trans (after_main_arg1 _), (h c main_arg2).trans (after_main_arg2 _), (h c main_arg3).trans (after_main_arg3 _)⟩)
    (run_seq scopedRefs_eq scopedSems_eq defs main (fun _ => ops) main_eq (fun _ => ops_sub) m ρ)

end Cert.ReferenceIdeal.Run

end
-- ==== Proof.Equal.lean ====
/-
  The two programs' results are equal on real inputs, result by result.
-/
module

public import proofs.«01_k».proof.Proof.KTail
public import proofs.«01_k».proof.Proof.RefHolds
public import proofs.«01_k».proof.Proof.RefRun

@[expose] public section

set_option maxRecDepth 16384

noncomputable section

namespace Cert.KernelIdeal.Block

open Cert.KernelIdeal Cert.KernelIdeal.Gen Idealize.ShloMosaic.TcCoe Idealize.ShloMosaic.ValueIdx Cert.VQ Idealize.SL.Sem
open Idealize.ShloMosaic hiding ix1 ix2 ix3 ix4 ix5

variable (m : (ℓ : Loc nD τ sig) → Buf (Elt Ideal) ℓ) (c : Dev nD)

theorem same_moved (h : VQ.Finite (inZ m c) (inC m c)) :
    ReferenceIdeal.Read.val_main_v45 (F := Ideal) (inZ m c) (inC m c) = tailMoved ((dats m 0 c).arrAt 4 cfg0.N) := by
  rw [arr_moved m h]
  funext i
  obtain ⟨b, d, y, x, rfl⟩ : ∃ (b : Fin 8) (d : Fin 256) (y x : Fin 32), i = ix4 b d y x := ⟨i 0, i 1, i 2, i 3, ValueIdx.eq_ix4 i⟩
  exact (ReferenceIdeal.Read.out_val h b d y x).trans (moved_val m c b d y x).symm

theorem same_loss (h : VQ.Finite (inZ m c) (inC m c)) :
    ReferenceIdeal.Read.val_main_v41 (F := Ideal) (inZ m c) (inC m c) = tailLoss ((dats m 0 c).arrAt 5 cfg0.N) := by
  rw [arr_sums m h]
  funext i
  exact (ReferenceIdeal.Read.loss_val (ReferenceIdeal.Read.holds h) i).trans (loss_val m c i).symm

theorem same_jsd (h : VQ.Finite (inZ m c) (inC m c)) :
    ReferenceIdeal.Read.val_main_v67 (F := Ideal) (inZ m c) (inC m c) = tailJsd ((dats m 0 c).arrAt 5 cfg0.N) := by
  rw [arr_sums m h]
  funext i
  exact (ReferenceIdeal.Read.jsd_val (ReferenceIdeal.Read.holds h) i).trans (jsd_val m c i).symm

theorem same_ent (h : VQ.Finite (inZ m c) (inC m c)) :
    ReferenceIdeal.Read.val_main_v81 (F := Ideal) (inZ m c) (inC m c) = tailEnt ((dats m 0 c).arrAt 5 cfg0.N) := by
  rw [arr_sums m h]
  funext i
  exact (ReferenceIdeal.Read.ent_val (ReferenceIdeal.Read.holds h) i).trans (ent_val m c i).symm

theorem same_prob (h : VQ.Finite (inZ m c) (inC m c)) :
    ReferenceIdeal.Read.val_main_v30 (F := Ideal) (inZ m c) (inC m c) = tailProb ((dats m 0 c).arrAt 3 cfg0.N) := by
  rw [arr_prob m h]
  funext i
  obtain ⟨n, k, rfl⟩ : ∃ (n : Fin 8192) (k : Fin 1024), i = ix2 n k := ⟨i 0, i 1, ValueIdx.eq_ix2 i⟩
  exact (ReferenceIdeal.Read.prob_val (ReferenceIdeal.Read.holds h) (ix2 n k)).trans (prob_val m c n k).symm

end Cert.KernelIdeal.Block

end
-- ==== Proof.Inputs.lean ====
/-
  The precondition read as the model's: arrays of finite entries are arrays of real numbers.
-/
module

public import proofs.«01_k».proof.Pre_finite
public import proofs.«01_k».proof.Proof.Data
public import proofs.«01_k».proof.Proof.Folds
public import Idealize.ShloMosaic.Lib.ReduceAll

@[expose] public section

set_option maxRecDepth 16384

noncomputable section

namespace Cert.Pre_finite

open Idealize.ShloMosaic Cert.VQ

/-- The precondition's shape relations. -/
theorem facts : Facts where
  bcast_S_S8x256x32x32 := by decide
  reducesTo_S8x256x32x32_S_d0_1_2_3 := by decide
  h_S_ := by decide
  bcast_S_S1024x256 := by decide
  reducesTo_S1024x256_S_d0_1 := by decide

/-- A number whose absolute value lies under infinity is real. -/
theorem real_of_abs {x : EReal} (h : Ideal.cmp .olt (max x (-x)) (Ideal.ofBits .f32 0x7F800000#32) = 1#1) : x = ((x.toReal : ℝ) : EReal) := by
  rw [lit_top] at h
  induction x with
  | bot => simp [Ideal.cmp] at h
  | top => simp [Ideal.cmp] at h
  | coe x => rw [EReal.toReal_coe]

variable [Facts]
open Facts

instance : Subsingleton S_.Idx := ⟨fun i j => funext fun a => a.elim0⟩

theorem finite_of {x0 : FVec Ideal S8x256x32x32 .f32} {x1 x2 : IVec S_ 32} {x3 : FVec Ideal S1024x256 .f32}
    (h : fn (F := Ideal) x0 x1 x2 x3 = fun _ => 1#1) : VQ.Finite x0 x3 := by
  have h' := congrFun h (fun a => a.elim0)
  dsimp only [fn] at h'
  obtain ⟨h0, h3⟩ := IntOp.andi_eq_one.1 h'
  exact ⟨fun i => real_of_abs (Host.reduce_andi_all _ _ reducesTo_S8x256x32x32_S_d0_1_2_3 h_S_ _ h0 i),
    fun i => real_of_abs (Host.reduce_andi_all _ _ reducesTo_S1024x256_S_d0_1 h_S_ _ h3 i)⟩

end Cert.Pre_finite

end
-- ==== Proof.lean ====
/-
  The certificate: both programs run and leave their arguments unchanged, and on finite inputs their results are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import proofs.«01_k».proof.Proof.Inputs
public import Idealize.ShloMosaic.Adequacy
public import Idealize.ShloMosaic.Init

@[expose] public section

noncomputable section

namespace Cert.Proof

open Idealize.ShloMosaic Idealize.SL.Sem

/-- The reference runs, changes no argument and leaves every semaphore at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2, Idealize.ShloMosaic.sem_eq_zero_of_no_sems (by decide) r.2⟩) (Cert.ReferenceIdeal.Run.run m ρ)

/-- On finite inputs the kernel's results are the reference's. -/
theorem equal : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  have fin : ∀ c, VQ.Finite (Cert.KernelIdeal.Block.inZ m c) (Cert.KernelIdeal.Block.inC m c) := fun c =>
    @Cert.Pre_finite.finite_of Cert.Pre_finite.facts _ _ _ _ (hpre c)
  refine ⟨fun c => _, fun c => _, fun c => _, fun c => _, fun c => _, Cert.KernelIdeal.Block.run m g, (θ_run Cert.ReferenceIdeal.defs _ _).mono (fun r h c => ?_) (Cert.ReferenceIdeal.Run.run m' g')⟩
  obtain ⟨h1, h2, h3, h4, h5, hargs⟩ := h c
  obtain ⟨e0, _, _, e3⟩ := hagree c
  rw [e0, e3] at h1 h2 h3 h4 h5
  exact ⟨h1.trans (Cert.KernelIdeal.Block.same_moved m c (fin c)), h2.trans (Cert.KernelIdeal.Block.same_loss m c (fin c)),
    h3.trans (Cert.KernelIdeal.Block.same_jsd m c (fin c)), h4.trans (Cert.KernelIdeal.Block.same_ent m c (fin c)),
    h5.trans (Cert.KernelIdeal.Block.same_prob m c (fin c)), hargs⟩

theorem claim : Cert.Claim :=
  ⟨Cert.Kernel.Gen.facts, Cert.KernelIdeal.Gen.facts, Cert.ReferenceIdeal.Gen.facts, Cert.Pre_finite.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    equal⟩

end Cert.Proof

end
